-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 256, 4, 64]⟩ ⟨4, ![2, 256, 16, 64]⟩ 2 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 4, 64]⟩ ⟨4, ![2, 256, 16, 64]⟩ 2 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x512 : Shape := ⟨3, ![2, 256, 512]⟩
abbrev S512x1024 : Shape := ⟨2, ![512, 1024]⟩
abbrev S2x256x4x64 : Shape := ⟨4, ![2, 256, 4, 64]⟩
abbrev S1024x512 : Shape := ⟨2, ![1024, 512]⟩
abbrev S_ : Shape := ⟨0, ![]⟩
abbrev S512x256 : Shape := ⟨2, ![512, 256]⟩
abbrev S512x512 : Shape := ⟨2, ![512, 512]⟩
abbrev S2x4x256x64 : Shape := ⟨4, ![2, 4, 256, 64]⟩
abbrev S2x256x256 : Shape := ⟨3, ![2, 256, 256]⟩
abbrev S3x2x256x256 : Shape := ⟨4, ![3, 2, 256, 256]⟩
abbrev S3x2 : Shape := ⟨2, ![3, 2]⟩
abbrev S256x256 : Shape := ⟨2, ![256, 256]⟩
abbrev S256x64 : Shape := ⟨2, ![256, 64]⟩
abbrev S1x1x256x64 : Shape := ⟨4, ![1, 1, 256, 64]⟩
abbrev S256 : Shape := ⟨1, ![256]⟩
abbrev S256x1 : Shape := ⟨2, ![256, 1]⟩
abbrev S1x256x256 : Shape := ⟨3, ![1, 256, 256]⟩
abbrev S1x1 : Shape := ⟨2, ![1, 1]⟩
abbrev S1x1x256x256 : Shape := ⟨4, ![1, 1, 256, 256]⟩
abbrev S256x512 : Shape := ⟨2, ![256, 512]⟩
abbrev S1x256x512 : Shape := ⟨3, ![1, 256, 512]⟩

abbrev nBuf : Space → Nat
  | .hbm => 24
  | .vmem => 8
  | .smem => 0
  | _ => 0

abbrev bufTy : (tb : Table) → Fin (tcTables nBuf tb) → BufTy
  | .hbm, ⟨0, _⟩ => ⟨S2x256x512, .f32⟩
  | .hbm, ⟨1, _⟩ => ⟨S512x1024, .f32⟩
  | .hbm, ⟨2, _⟩ => ⟨S2x256x4x64, .f32⟩
  | .hbm, ⟨3, _⟩ => ⟨S2x256x4x64, .f32⟩
  | .hbm, ⟨4, _⟩ => ⟨S1024x512, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S512x256, .f32⟩
  | .hbm, ⟨20, _⟩ => ⟨S512x512, .f32⟩
  | .hbm, ⟨21, _⟩ => ⟨S2x4x256x64, .f32⟩
  | .hbm, ⟨22, _⟩ => ⟨S2x4x256x64, .f32⟩
  | .hbm, ⟨23, _⟩ => ⟨S2x256x512, .f32⟩
  | .local _ .vmem, ⟨0, _⟩ => ⟨S512x512, .f32⟩
  | .local _ .vmem, ⟨1, _⟩ => ⟨S512x256, .f32⟩
  | .local _ .vmem, ⟨2, _⟩ => ⟨S2x4x256x64, .f32⟩
  | .local _ .vmem, ⟨3, _⟩ => ⟨S2x4x256x64, .f32⟩
  | .local _ .vmem, ⟨4, _⟩ => ⟨S1024x512, .f32⟩
  | .local _ .vmem, ⟨5, _⟩ => ⟨S2x256x512, .f32⟩
  | .local _ .vmem, ⟨6, _⟩ => ⟨S2x256x256, .bf16⟩
  | .local _ .vmem, ⟨7, _⟩ => ⟨S3x2x256x256, .bf16⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_98 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_88 : BitVec 32 := 1#32
  let v166 : BitVec 32 := Scalar.addi v2 c1_i32_88
  let c4_i32_89 : BitVec 32 := 4#32
  let v167 : BitVec 32 := Scalar.remsi v166 c4_i32_89
  let c1_i32_97 : BitVec 32 := 1#32
  let v168 : BitVec 32 := Scalar.muli v167 c1_i32_97
  let v169 : BitVec 32 := Scalar.addi c0_i32_98 v168
  v169.toNat
def k0_dev5 (d0 : Dev nD) : Nat :=
  let c0_i32_113 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_103 : BitVec 32 := 2#32
  let v178 : BitVec 32 := Scalar.addi v2 c2_i32_103
  let c4_i32_104 : BitVec 32 := 4#32
  let v179 : BitVec 32 := Scalar.remsi v178 c4_i32_104
  let c1_i32_112 : BitVec 32 := 1#32
  let v180 : BitVec 32 := Scalar.muli v179 c1_i32_112
  let v181 : BitVec 32 := Scalar.addi c0_i32_113 v180
  v181.toNat
def k0_dev6 (d0 : Dev nD) : Nat :=
  let c0_i32_128 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_118 : BitVec 32 := 3#32
  let v190 : BitVec 32 := Scalar.addi v2 c3_i32_118
  let c4_i32_119 : BitVec 32 := 4#32
  let v191 : BitVec 32 := Scalar.remsi v190 c4_i32_119
  let c1_i32_127 : BitVec 32 := 1#32
  let v192 : BitVec 32 := Scalar.muli v191 c1_i32_127
  let v193 : BitVec 32 := Scalar.addi c0_i32_128 v192
  v193.toNat
def k0_dev7 (d0 : Dev nD) : Nat :=
  let c0_i32_202 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_192 : BitVec 32 := 1#32
  let v287 : BitVec 32 := Scalar.addi v2 c1_i32_192
  let c4_i32_193 : BitVec 32 := 4#32
  let v288 : BitVec 32 := Scalar.remsi v287 c4_i32_193
  let c1_i32_201 : BitVec 32 := 1#32
  let v289 : BitVec 32 := Scalar.muli v288 c1_i32_201
  let v290 : BitVec 32 := Scalar.addi c0_i32_202 v289
  v290.toNat
def k0_dev8 (d0 : Dev nD) : Nat :=
  let c0_i32_217 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_207 : BitVec 32 := 2#32
  let v299 : BitVec 32 := Scalar.addi v2 c2_i32_207
  let c4_i32_208 : BitVec 32 := 4#32
  let v300 : BitVec 32 := Scalar.remsi v299 c4_i32_208
  let c1_i32_216 : BitVec 32 := 1#32
  let v301 : BitVec 32 := Scalar.muli v300 c1_i32_216
  let v302 : BitVec 32 := Scalar.addi c0_i32_217 v301
  v302.toNat
def k0_dev9 (d0 : Dev nD) : Nat :=
  let c0_i32_232 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_222 : BitVec 32 := 3#32
  let v311 : BitVec 32 := Scalar.addi v2 c3_i32_222
  let c4_i32_223 : BitVec 32 := 4#32
  let v312 : BitVec 32 := Scalar.remsi v311 c4_i32_223
  let c1_i32_231 : BitVec 32 := 1#32
  let v313 : BitVec 32 := Scalar.muli v312 c1_i32_231
  let v314 : BitVec 32 := Scalar.addi c0_i32_232 v313
  v314.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v323 : BitVec 32 := Scalar.muli v2 c256_i32
  let v324 : Index := Scalar.indexCast v323
  let c0_237 : Index := 0#32
  ![v324.toNat, 0]
def k0_off2 (d0 : Dev nD) (c0_i32_252 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v341 : BitVec 32 := Scalar.addi v2 c0_i32_252
  let c1_i32_253 : BitVec 32 := 1#32
  let v342 : BitVec 32 := Scalar.addi v341 c1_i32_253
  let c4_i32_254 : BitVec 32 := 4#32
  let v343 : BitVec 32 := Scalar.remsi v342 c4_i32_254
  let c256_i32_255 : BitVec 32 := 256#32
  let v344 : BitVec 32 := Scalar.muli v343 c256_i32_255
  let v345 : Index := Scalar.indexCast v344
  let c0_256 : Index := 0#32
  ![v345.toNat, 0]
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x4x256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x4x256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x256x512 : Shape := ⟨3, ![2, 256, 512]⟩
abbrev S512x1024 : Shape := ⟨2, ![512, 1024]⟩
abbrev S2x256x16x64 : Shape := ⟨4, ![2, 256, 16, 64]⟩
abbrev S1024x512 : Shape := ⟨2, ![1024, 512]⟩
abbrev S2x256x1024 : Shape := ⟨3, ![2, 256, 1024]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S2x16x256x256 : Shape := ⟨4, ![2, 16, 256, 256]⟩
abbrev S1x1x256x256 : Shape := ⟨4, ![1, 1, 256, 256]⟩
abbrev S2x16x256 : Shape := ⟨3, ![2, 16, 256]⟩
abbrev S2x16x256x1 : Shape := ⟨4, ![2, 16, 256, 1]⟩
abbrev S1x1x256x1 : Shape := ⟨4, ![1, 1, 256, 1]⟩
abbrev S2x16x64x256 : Shape := ⟨4, ![2, 16, 64, 256]⟩

abbrev nBuf : Space → Nat
  | .hbm => 123
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S512x1024, .f32⟩
  | .hbm, ⟨2, _⟩ => ⟨S2x256x16x64, .f32⟩
  | .hbm, ⟨3, _⟩ => ⟨S2x256x16x64, .f32⟩
  | .hbm, ⟨4, _⟩ => ⟨S1024x512, .f32⟩
  | .hbm, ⟨5, _⟩ => ⟨S2x256x1024, .f32⟩
  | .hbm, ⟨6, _⟩ => ⟨S2x256x16x64, .f32⟩
  | .hbm, ⟨7, _⟩ => ⟨S256, .i32⟩
  | .hbm, ⟨8, _⟩ => ⟨S_, .i32⟩
  | .hbm, ⟨9, _⟩ => ⟨S_, .i32⟩
  | .hbm, ⟨10, _⟩ => ⟨S256, .i32⟩
  | .hbm, ⟨11, _⟩ => ⟨S256, .i32⟩
  | .hbm, ⟨12, _⟩ => ⟨S256, .i32⟩
  | .hbm, ⟨13, _⟩ => ⟨S_, .i32⟩
  | .hbm, ⟨14, _⟩ => ⟨S256, .i32⟩
  | .hbm, ⟨15, _⟩ => ⟨S256, .i1⟩
  | .hbm, ⟨16, _⟩ => ⟨S256, .i32⟩
  | .hbm, ⟨17, _⟩ => ⟨S256, .i32⟩
  | .hbm, ⟨18, _⟩ => ⟨S_, .i32⟩
  | .hbm, ⟨19, _⟩ => ⟨S256, .i32⟩
  | .hbm, ⟨20, _⟩ => ⟨S256, .i1⟩
  | .hbm, ⟨21, _⟩ => ⟨S256, .i1⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S256, .i32⟩
  | .hbm, ⟨26, _⟩ => ⟨S256x1, .i32⟩
  | .hbm, ⟨27, _⟩ => ⟨S256, .i32⟩
  | .hbm, ⟨28, _⟩ => ⟨S_, .i32⟩
  | .hbm, ⟨29, _⟩ => ⟨S_, .i32⟩
  | .hbm, ⟨30, _⟩ => ⟨S256, .i32⟩
  | .hbm, ⟨31, _⟩ => ⟨S256, .i32⟩
  | .hbm, ⟨32, _⟩ => ⟨S256, .i32⟩
  | .hbm, ⟨33, _⟩ => ⟨S_, .i32⟩
  | .hbm, ⟨34, _⟩ => ⟨S256, .i32⟩
  | .hbm, ⟨35, _⟩ => ⟨S256, .i1⟩
  | .hbm, ⟨36, _⟩ => ⟨S256, .i32⟩
  | .hbm, ⟨37, _⟩ => ⟨S256, .i32⟩
  | .hbm, ⟨38, _⟩ => ⟨S_, .i32⟩
  | .hbm, ⟨39, _⟩ => ⟨S256, .i32⟩
  | .hbm, ⟨40, _⟩ => ⟨S256, .i1⟩
  | .hbm, ⟨41, _⟩ => ⟨S256, .i1⟩
  | .hbm, ⟨42, _⟩ => ⟨S_, .i32⟩
  | .hbm, ⟨43, _⟩ => ⟨S256, .i32⟩
  | .hbm, ⟨44, _⟩ => ⟨S256, .i32⟩
  | .hbm, ⟨45, _⟩ => ⟨S256, .i32⟩
  | .hbm, ⟨46, _⟩ => ⟨S1x256, .i32⟩
  | .hbm, ⟨47, _⟩ => ⟨S256x256, .i32⟩
  | .hbm, ⟨48, _⟩ => ⟨S256x256, .i32⟩
  | .hbm, ⟨49, _⟩ => ⟨S256x256, .i1⟩
  | .hbm, ⟨50, _⟩ => ⟨S_, .i32⟩
  | .hbm, ⟨51, _⟩ => ⟨S1x256, .i32⟩
  | .hbm, ⟨52, _⟩ => ⟨S1x256, .i1⟩
  | .hbm, ⟨53, _⟩ => ⟨S256x256, .i1⟩
  | .hbm, ⟨54, _⟩ => ⟨S256x256, .i1⟩
  | .hbm, ⟨55, _⟩ => ⟨S256x256, .i32⟩
  | .hbm, ⟨56, _⟩ => ⟨S256x256, .i32⟩
  | .hbm, ⟨57, _⟩ => ⟨S256x256, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S256x256, .i32⟩
  | .hbm, ⟨65, _⟩ => ⟨S256x256, .i32⟩
  | .hbm, ⟨66, _⟩ => ⟨S_, .i32⟩
  | .hbm, ⟨67, _⟩ => ⟨S256x256, .i32⟩
  | .hbm, ⟨68, _⟩ => ⟨S256x256, .i1⟩
  | .hbm, ⟨69, _⟩ => ⟨S_, .i32⟩
  | .hbm, ⟨70, _⟩ => ⟨S256x256, .i32⟩
  | .hbm, ⟨71, _⟩ => ⟨S256x256, .i1⟩
  | .hbm, ⟨72, _⟩ => ⟨S_, .i32⟩
  | .hbm, ⟨73, _⟩ => ⟨S_, .i1⟩
  | .hbm, ⟨74, _⟩ => ⟨S256x256, .i1⟩
  | .hbm, ⟨75, _⟩ => ⟨S256x256, .i1⟩
  | .hbm, ⟨76, _⟩ => ⟨S256x256, .i1⟩
  | .hbm, ⟨77, _⟩ => ⟨S256x256, .i32⟩
  | .hbm, ⟨78, _⟩ => ⟨S256x256, .i32⟩
  | .hbm, ⟨79, _⟩ => ⟨S256x256, .i32⟩
  | .hbm, ⟨80, _⟩ => ⟨S_, .i32⟩
  | .hbm, ⟨81, _⟩ => ⟨S256x256, .i32⟩
  | .hbm, ⟨82, _⟩ => ⟨S256x256, .i1⟩
  | .hbm, ⟨83, _⟩ => ⟨S256x256, .i1⟩
  | .hbm, ⟨84, _⟩ => ⟨S2x16x256x256, .f32⟩
  | .hbm, ⟨85, _⟩ => ⟨S_, .f32⟩
  | .hbm, ⟨86, _⟩ => ⟨S2x16x256x256, .f32⟩
  | .hbm, ⟨87, _⟩ => ⟨S2x16x256x256, .f32⟩
  | .hbm, ⟨88, _⟩ => ⟨S1x1x256x256, .i1⟩
  | .hbm, ⟨89, _⟩ => ⟨S_, .f32⟩
  | .hbm, ⟨90, _⟩ => ⟨S_, .f32⟩
  | .hbm, ⟨91, _⟩ => ⟨S2x16x256x256, .i1⟩
  | .hbm, ⟨92, _⟩ => ⟨S2x16x256x256, .f32⟩
  | .hbm, ⟨93, _⟩ => ⟨S2x16x256x256, .f32⟩
  | .hbm, ⟨94, _⟩ => ⟨S_, .f32⟩
  | .hbm, ⟨95, _⟩ => ⟨S2x16x256, .f32⟩
  | .hbm, ⟨96, _⟩ => ⟨S2x16x256x1, .f32⟩
  | .hbm, ⟨97, _⟩ => ⟨S2x16x256x256, .f32⟩
  | .hbm, ⟨98, _⟩ => ⟨S2x16x256x256, .f32⟩
  | .hbm, ⟨99, _⟩ => ⟨S2x16x256x256, .f32⟩
  | .hbm, ⟨100, _⟩ => ⟨S_, .i1⟩
  | .hbm, ⟨101, _⟩ => ⟨S256, .i1⟩
  | .hbm, ⟨102, _⟩ => ⟨S1x1x256x1, .i1⟩
  | .hbm, ⟨103, _⟩ => ⟨S_, .f32⟩
  | .hbm, ⟨104, _⟩ => ⟨S2x16x256, .f32⟩
  | .hbm, ⟨105, _⟩ => ⟨S2x16x256x1, .f32⟩
  | .hbm, ⟨106, _⟩ => ⟨S_, .f32⟩
  | .hbm, ⟨107, _⟩ => ⟨S_, .f32⟩
  | .hbm, ⟨108, _⟩ => ⟨S2x16x256x1, .i1⟩
  | .hbm, ⟨109, _⟩ => ⟨S2x16x256x1, .f32⟩
  | .hbm, ⟨110, _⟩ => ⟨S2x16x256x1, .f32⟩
  | .hbm, ⟨111, _⟩ => ⟨S2x16x256x256, .f32⟩
  | .hbm, ⟨112, _⟩ => ⟨S2x16x256x256, .f32⟩
  | .hbm, ⟨113, _⟩ => ⟨S1x1x256x1, .i1⟩
  | .hbm, ⟨114, _⟩ => ⟨S_, .f32⟩
  | .hbm, ⟨115, _⟩ => ⟨S_, .f32⟩
  | .hbm, ⟨116, _⟩ => ⟨S2x16x256x256, .i1⟩
  | .hbm, ⟨117, _⟩ => ⟨S2x16x256x256, .f32⟩
  | .hbm, ⟨118, _⟩ => ⟨S2x16x256x256, .f32⟩
  | .hbm, ⟨119, _⟩ => ⟨S2x16x64x256, .f32⟩
  | .hbm, ⟨120, _⟩ => ⟨S2x256x16x64, .f32⟩
  | .hbm, ⟨121, _⟩ => ⟨S2x256x1024, .f32⟩
  | .hbm, ⟨122, _⟩ => ⟨S2x256x512, .f32⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.KernelIdealProto.lean ====
/-
The device-to-device protocol of the kernel: who signals whom, who copies what where, and what each
semaphore's receiver is handed. Four devices, each of which computes two context blocks (one per batch)
and copies each of them to the three other devices; a device adds the four blocks' products with the
rows of the output projection that belong to each block.

Devices talk through thirteen semaphores each. The barrier semaphore of device `c` gets one unit from every other
device: the unit of the device that `c` will copy slot `k` to carries that device's two landing slots `k`. Each of the
six copies `(k, b)` — landing slot `k`, batch `b` — has a send semaphore, whose waiter gets its share of the
source block back, and a receive semaphore, whose waiter gets the landing slot holding the origin's block.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.Launch
public import Idealize.ShloMosaic.Lib.Pipeline.Kit
public import Idealize.ShloMosaic.Lib.Exec.Geometry
public import Idealize.ShloMosaic.Lib.Tactic

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The two round algebras side by side: the pipeline's and this protocol's, whose duties are the three slots. -/
abbrev UB : Type := URounds (GSem nD τ sig) (Fin 3)
/-- The ghost state: the pipeline's and the protocol's. -/
abbrev UU : Type := UR sig nD τ × UB

local notation "𝕄" => MT nD τ sig Unit (Elt F) ℕ UU ℕ

/-- The pipeline's part of the ghost state. -/
abbrev EP : Emb (UR sig nD τ) (MT nD τ sig Unit (Elt F) ℕ UU ℕ) := embL
/-- The protocol's part of the ghost state. -/
abbrev ER : Emb UB (MT nD τ sig Unit (Elt F) ℕ UU ℕ) := embR

/-- No loop has a variant. -/
abbrev 𝒱₀ : Variants := Variants.none

/-- Every element type has a value. -/
instance elt_nonempty (e : EltTy) : Nonempty (Elt F e) := by
  cases e
  case fp8e4m3 => exact ⟨FloatOps.ofBits .fp8e4m3 0⟩
  case fp8e5m2 => exact ⟨FloatOps.ofBits .fp8e5m2 0⟩
  case bf16 => exact ⟨FloatOps.ofBits .bf16 0⟩
  case f16 => exact ⟨FloatOps.ofBits .f16 0⟩
  case f32 => exact ⟨FloatOps.ofBits .f32 0⟩
  all_goals exact ⟨0⟩

/-! ## The ring -/

/-- The device that copy `(k, b)` of device `c` goes to. -/
def tgt (c : Dev nD) (k : Fin 3) : Dev nD := ⟨(c.val + (3 - k.val)) % 4, Nat.mod_lt _ (by decide)⟩
/-- The device whose block lands in slot `k` of device `c`. -/
def org (c : Dev nD) (k : Fin 3) : Dev nD := ⟨(c.val + (k.val + 1)) % 4, Nat.mod_lt _ (by decide)⟩
/-- The slot `k` of the device that `c` sends to for slot `k` comes from `c`. -/
theorem org_tgt (c : Dev nD) (k : Fin 3) : org (tgt c k) k = c := by revert c k; decide
/-- The device whose context lands in slot `k` of `c` sends it for slot `k` to `c`. -/
theorem tgt_org (c : Dev nD) (k : Fin 3) : tgt (org c k) k = c := by revert c k; decide
/-- Going round the ring by slot `k`. -/
def ring (k : Fin 3) : Dev nD ≃ Dev nD := ⟨fun c => org c k, fun c => tgt c k, fun c => tgt_org c k, fun c => org_tgt c k⟩

/-! ## The buffers, their slabs, the semaphores, the cells -/

/-- The staged activations. -/
abbrev xM : Memref sig .tc .vmem S512x512 .f32 := Memref.whole cc0_stg0_0
/-- The staged columns of the query projection. -/
abbrev wM : Memref sig .tc .vmem S512x256 .f32 := Memref.whole cc0_stg1_0
/-- The staged keys. -/
abbrev kM : Memref sig .tc .vmem S2x4x256x64 .f32 := Memref.whole cc0_stg2_0
/-- The staged values. -/
abbrev vM : Memref sig .tc .vmem S2x4x256x64 .f32 := Memref.whole cc0_stg3_0
/-- The staged output projection. -/
abbrev pM : Memref sig .tc .vmem S1024x512 .f32 := Memref.whole cc0_stg4_0
/-- The staged result. -/
abbrev oM : Memref sig .tc .vmem S2x256x512 .f32 := Memref.whole cc0_stg5_0
/-- The two context blocks of the device itself, and the landing slots. -/
abbrev cM : Memref sig .tc .vmem S2x256x256 .bf16 := Memref.whole cc0_scratch0
/-- The slots that the other devices' contexts land in. -/
abbrev rM : Memref sig .tc .vmem S3x2x256x256 .bf16 := Memref.whole cc0_scratch1

/-- A batch's block lies in the context buffer. -/
theorem inbC (b : Fin 2) : ∀ a : Fin 3, (![b.val, 0, 0] : Fin 3 → ℕ) a + S1x256x256.size a ≤ S2x256x256.size a := by revert b; decide
/-- A batch's block lies in the result. -/
theorem inbO (b : Fin 2) : ∀ a : Fin 3, (![b.val, 0, 0] : Fin 3 → ℕ) a + S1x256x512.size a ≤ S2x256x512.size a := by revert b; decide
/-- A slot's block of a batch lies in the receive buffer. -/
theorem inbR (k : Fin 3) (b : Fin 2) : ∀ a : Fin 4, (![k.val, b.val, 0, 0] : Fin 4 → ℕ) a + S1x1x256x256.size a ≤ S3x2x256x256.size a := by revert k b; decide

/-- Batch `b`'s block of the own contexts, of the output; landing slot `k` of batch `b`. -/
abbrev rC (b : Fin 2) : Rect S2x256x256 := Rect.unit (s := S2x256x256) ![b.val, 0, 0] S1x256x256.size (inbC b)
/-- The block of batch `b` of the result. -/
abbrev rO (b : Fin 2) : Rect S2x256x512 := Rect.unit (s := S2x256x512) ![b.val, 0, 0] S1x256x512.size (inbO b)
/-- The block of batch `b` in slot `k` of the receive buffer. -/
abbrev rR (k : Fin 3) (b : Fin 2) : Rect S3x2x256x256 := Rect.unit (s := S3x2x256x256) ![k.val, b.val, 0, 0] S1x1x256x256.size (inbR k b)

/-- The context's block of a batch, as accessed. -/
abbrev cV (b : Fin 2) : View sig .tc .vmem S1x256x256 .bf16 := cM.access (rC b)
/-- The result's block of a batch, as accessed. -/
abbrev oV (b : Fin 2) : View sig .tc .vmem S1x256x512 .f32 := oM.access (rO b)
/-- A slot's block of a batch, as accessed. -/
abbrev rV (k : Fin 3) (b : Fin 2) : View sig .tc .vmem S1x1x256x256 .bf16 := rM.access (rR k b)

/-- The same blocks as the copies name them: two-dimensional. -/
abbrev cS (b : Fin 2) : Memref sig .tc .vmem S256x256 .bf16 := (cM.slice (rC b) (fun _ => rfl)).squeeze S256x256 squeezes_S1x256x256_S256x256
/-- A slot's block of a batch, as the copies name it. -/
abbrev dS (k : Fin 3) (b : Fin 2) : Memref sig .tc .vmem S256x256 .bf16 := (rM.slice (rR k b) (fun _ => rfl)).squeeze S256x256 squeezes_S1x1x256x256_S256x256

/-- The barrier semaphore; the send and receive semaphores of copy `(k, b)`. -/
abbrev barS : Sem sig := sig.barrier 0 rfl
/-- The send semaphore of copy `(k, b)`. -/
abbrev sD (k : Fin 3) (b : Fin 2) : DmaSem sig := ⟨6 + (2 * k.val + b.val), by show _ < 18; omega⟩
/-- The receive semaphore of copy `(k, b)`. -/
abbrev vD (k : Fin 3) (b : Fin 2) : DmaSem sig := ⟨12 + (2 * k.val + b.val), by show _ < 18; omega⟩

/-- Device `c`'s barrier counter. -/
abbrev barCell (c : Dev nD) : GSem nD τ sig := ((c : Thread nD τ), .reg barS)
/-- Device `c`'s send counter of copy `(k, b)`. -/
abbrev sCell (c : Dev nD) (k : Fin 3) (b : Fin 2) : GSem nD τ sig := ((c : Thread nD τ), .dma (sD k b))
/-- Device `c`'s receive counter of copy `(k, b)`. -/
abbrev vCell (c : Dev nD) (k : Fin 3) (b : Fin 2) : GSem nD τ sig := ((c : Thread nD τ), .dma (vD k b))

/-- What a copy credits. -/
abbrev N : ℕ := (dS 0 0).view.dmaCredit
/-- A copy moves at least one unit. -/
theorem N_pos : 0 < N := View.dmaCredit_pos _ (by decide)

/-! ## A block held at a value -/

/-- Device `c` holds, at share `q`, the elements of its buffer that view `v` names, and they read `w`. -/
def slab {sp : Space} {s : Shape} {e : EltTy} (v : View sig .tc sp s e) (c : Dev nD) (q : PosShare TreeShare) (w : s.Idx → Elt F e) : sProp 𝕄 :=
  v.loc (c : Thread nD τ) ↦[v.set]{q} v.rep w

instance slab_storable {sp : Space} {s : Shape} {e : EltTy} (v : View sig .tc sp s e) (c : Dev nD) (q : PosShare TreeShare) (w : s.Idx → Elt F e) :
    BI.Storable (upEmb : UEmb _ 𝕄) (slab v c q w) := by unfold slab; infer_instance

/-- Contents of the view's elements are their reading. -/
theorem slab_of {sp : Space} {s : Shape} {e : EltTy} (v : View sig .tc sp s e) (c : Dev nD) (q : PosShare TreeShare) (f : Buf (Elt F) (v.loc (c : Thread nD τ))) :
    (v.loc (c : Thread nD τ) ↦[v.set]{q} f : sProp 𝕄) = slab v c q (v.read (Elt F) f) :=
  pointsTo_congr fun i hi => by
    obtain ⟨x, -, rfl⟩ := Finset.mem_map.mp hi
    rw [View.rep_emb, View.read_apply, cast_cast, cast_eq]

/-- A block's share in two halves. -/
theorem slab_share {s : Shape} {e : EltTy} (v : View sig .tc .vmem s e) (c : Dev nD) (q : PosShare TreeShare) (w : s.Idx → Elt F e) :
    (slab v c q w : sProp 𝕄) ⊣⊢ iprop(slab v c q.left w ∗ slab v c q.right w) :=
  pointsTo_share (PosShare.mem_left_op_right q)

/-- A load of a held block answers its value. -/
theorem load_slab {s : Shape} {e : EltTy} (m : Memref sig .tc .vmem s e) {off off' size : Fin s.rank → ℕ} {inb : ∀ a, off a + size a ≤ s.size a}
    {inb' : ∀ a, off' a + size a ≤ s.size a} (h : off = off') (c : Dev nD) (q : PosShare TreeShare) (w : (Rect.unit off' size inb').shape.Idx → Elt F e)
    {hl : m.view.LoadsAt (Rect.unit off size inb).toLoadRect} {α : Type} {Q : α → sProp 𝕄}
    {k : ((Rect.unit off size inb).toLoadRect.shape.Idx → Elt F e) → Prog (TpuEff nD τ sig (Elt F) Λ₀ .tc) α} :
    (slab (m.access (Rect.unit off' size inb')) c q w)
      ⊢ iprop((slab (m.access (Rect.unit off' size inb')) c q w -∗ wp frame (wpE (defs₀ (F := F)) 𝒱₀ (c : Thread nD τ) none) Set.univ (k w) Q)
          -∗ wp frame (wpE (defs₀ (F := F)) 𝒱₀ (c : Thread nD τ) none) Set.univ (.op (.load m (Rect.unit off size inb).toLoadRect hl) k) Q) := by
  subst h
  have h := wp_load_rect (defs := defs₀ (F := F)) (Q := Q) (k := k) (hl := hl) (Ix := Unit) (Name := ℕ) (U := UU) (Lvl := ℕ) (Γ := []) 𝒱₀ (c : Thread nD τ) none Set.univ (m := m)
    (r := Rect.unit off size inb) (q := q)
    (f := (m.access (Rect.unit off size inb)).rep w) (Finset.Subset.refl _)
  rw [View.read_rep] at h
  exact h

/-- A store into a held block leaves it at the stored value. -/
theorem store_slab {s : Shape} {e : EltTy} (m : Memref sig .tc .vmem s e) {off off' size : Fin s.rank → ℕ} {inb : ∀ a, off a + size a ≤ s.size a}
    {inb' : ∀ a, off' a + size a ≤ s.size a} (h : off = off') (c : Dev nD) (w₀ : (Rect.unit off' size inb').shape.Idx → Elt F e)
    {w : (Rect.unit off size inb).shape.Idx → Elt F e}
    {hx : (m.access (Rect.unit off size inb)).Stores Finset.univ} {hm : (Finset.univ : Finset (Rect.unit off size inb).shape.Idx) = Finset.univ ∨ ∀ a, (Rect.unit off size inb).stride a = 1}
    {α : Type} {Q : α → sProp 𝕄} {k : PUnit → Prog (TpuEff nD τ sig (Elt F) Λ₀ .tc) α} :
    (slab (m.access (Rect.unit off' size inb')) c fullShare w₀)
      ⊢ iprop((slab (m.access (Rect.unit off' size inb')) c fullShare w -∗ wp frame (wpE (defs₀ (F := F)) 𝒱₀ (c : Thread nD τ) none) Set.univ (k ⟨⟩) Q)
          -∗ wp frame (wpE (defs₀ (F := F)) 𝒱₀ (c : Thread nD τ) none) Set.univ (.op (.store m (Rect.unit off size inb) w Finset.univ hx hm) k) Q) := by
  subst h
  have h := wp_store (defs := defs₀ (F := F)) (Q := Q) (k := k) (hx := hx) (hm := hm) (Ix := Unit) (Name := ℕ) (U := UU) (Lvl := ℕ) (Γ := []) 𝒱₀ (c : Thread nD τ) none Set.univ (m := m)
    (r := Rect.unit off size inb) (w := w) (Mk := Finset.univ)
    (f := (m.access (Rect.unit off size inb)).rep w₀) (Finset.Subset.refl _)
  have e := slab_of (F := F) (m.access (Rect.unit off size inb)) c fullShare ((m.access (Rect.unit off size inb)).write (Elt F) ((m.access (Rect.unit off size inb)).rep w₀) w Finset.univ)
  rw [View.read_write_univ] at e
  rw [← e]
  exact h

/-! ## A whole buffer as its blocks -/

/-- Contents that read `w t` through each of a family of blocks covering the buffer. -/
def glue (b : Ref sig .tc) {T : Type} (r : T → Rect b.ty.shape) (hc : ∀ i : b.ty.shape.Idx, ∃ t, i ∈ ((Memref.whole b).access (r t)).set)
    (w : (t : T) → (r t).shape.Idx → Elt F b.ty.elt) : b.ty.Contents (Elt F) :=
  fun i => ((Memref.whole b).access (r (hc i).choose)).rep (w (hc i).choose) i

/-- On each block the glued contents are the block's. -/
theorem glue_at (b : Ref sig .tc) {T : Type} (r : T → Rect b.ty.shape) (hc : ∀ i : b.ty.shape.Idx, ∃ t, i ∈ ((Memref.whole b).access (r t)).set)
    (hd : ∀ t t', t ≠ t' → Disjoint ((Memref.whole b).access (r t)).set ((Memref.whole b).access (r t')).set)
    (w : (t : T) → (r t).shape.Idx → Elt F b.ty.elt) (t : T) (i : b.ty.shape.Idx) (hi : i ∈ ((Memref.whole b).access (r t)).set) :
    glue b r hc w i = ((Memref.whole b).access (r t)).rep (w t) i := by
  have h : (hc i).choose = t := by
    by_contra hn
    exact (Finset.disjoint_left.mp (hd (hc i).choose t hn) (hc i).choose_spec) hi
  unfold glue; rw [h]

/-- Read through a block, the glued contents are the block's value. -/
theorem read_glue (b : Ref sig .tc) {T : Type} (r : T → Rect b.ty.shape) (hc : ∀ i : b.ty.shape.Idx, ∃ t, i ∈ ((Memref.whole b).access (r t)).set)
    (hd : ∀ t t', t ≠ t' → Disjoint ((Memref.whole b).access (r t)).set ((Memref.whole b).access (r t')).set)
    (w : (t : T) → (r t).shape.Idx → Elt F b.ty.elt) (t : T) :
    ((Memref.whole b).access (r t)).read (Elt F) (glue b r hc w) = w t := by
  funext x
  rw [View.read_apply, glue_at b r hc hd w t _ (Finset.mem_map_of_mem _ (Finset.mem_univ x)), View.rep_emb, cast_cast, cast_eq]

/-- A family of blocks that covers the buffer and whose members are apart. -/
structure Blocks (b : Ref sig .tc) {T : Type} (r : T → Rect b.ty.shape) : Prop where
  cover : ∀ i : b.ty.shape.Idx, ∃ t, i ∈ ((Memref.whole b).access (r t)).set
  apart : ∀ t t', t ≠ t' → Disjoint ((Memref.whole b).access (r t)).set ((Memref.whole b).access (r t')).set

/-- A buffer's points-to is its blocks'. -/
theorem slabs_split (b : Ref sig .tc) {T : Type} [Fintype T] (r : T → Rect b.ty.shape) (h : Blocks b r) (c : Dev nD) (q : PosShare TreeShare)
    (f : b.ty.Contents (Elt F)) :
    (((c : Thread nD τ).loc b ↦{q} f : sProp 𝕄))
      = bigSep Finset.univ fun t : T => slab ((Memref.whole b).access (r t)) c q (((Memref.whole b).access (r t)).read (Elt F) f) := by
  have hu : (Finset.univ : Finset (Idx ((c : Thread nD τ).loc b))) = (Finset.univ : Finset T).biUnion fun t => ((Memref.whole b).access (r t)).set := by
    ext i; simp only [Finset.mem_univ, Finset.mem_biUnion, true_and, true_iff]; exact h.cover i
  rw [hu, pointsTo_biUnion _ _ fun t _ t' _ hn => h.apart t t' hn]
  exact bigSep_congr fun t _ => slab_of ((Memref.whole b).access (r t)) c q f

/-- The blocks at values joined are the buffer at the glued contents. -/
theorem slabs_join (b : Ref sig .tc) {T : Type} [Fintype T] (r : T → Rect b.ty.shape) (h : Blocks b r) (c : Dev nD) (q : PosShare TreeShare)
    (w : (t : T) → (r t).shape.Idx → Elt F b.ty.elt) :
    (bigSep Finset.univ fun t : T => slab ((Memref.whole b).access (r t)) c q (w t)) = ((c : Thread nD τ).loc b ↦{q} glue b r h.cover w : sProp 𝕄) := by
  rw [slabs_split b r h]
  exact bigSep_congr fun t _ => by rw [read_glue b r h.cover h.apart w t]

/-- The batches' blocks make up the context buffer. -/
theorem blocksC : Blocks cc0_scratch0 rC where
  cover i := ⟨i 0, by
    rw [View.set_slice_whole, Rect.mem_set_unit]
    intro a; fin_cases a
    · exact ⟨Nat.le_refl _, Nat.lt_succ_self _⟩
    · exact ⟨Nat.zero_le _, by show (i 1).val < 0 + 256; rw [Nat.zero_add]; exact (i 1).isLt⟩
    · exact ⟨Nat.zero_le _, by show (i 2).val < 0 + 256; rw [Nat.zero_add]; exact (i 2).isLt⟩⟩
  apart t t' hn := Finset.disjoint_left.mpr fun i h₁ h₂ => hn (by
    rw [View.set_slice_whole, Rect.mem_set_unit] at h₁ h₂
    obtain ⟨a₁, b₁⟩ := h₁ 0; obtain ⟨a₂, b₂⟩ := h₂ 0
    change t.val ≤ _ at a₁; change _ < t.val + 1 at b₁; change t'.val ≤ _ at a₂; change _ < t'.val + 1 at b₂
    exact Fin.ext (by omega))

/-- The batches' blocks make up the result. -/
theorem blocksO : Blocks cc0_stg5_0 rO where
  cover i := ⟨i 0, by
    rw [View.set_slice_whole, Rect.mem_set_unit]
    intro a; fin_cases a
    · exact ⟨Nat.le_refl _, Nat.lt_succ_self _⟩
    · exact ⟨Nat.zero_le _, by show (i 1).val < 0 + 256; rw [Nat.zero_add]; exact (i 1).isLt⟩
    · exact ⟨Nat.zero_le _, by show (i 2).val < 0 + 512; rw [Nat.zero_add]; exact (i 2).isLt⟩⟩
  apart t t' hn := Finset.disjoint_left.mpr fun i h₁ h₂ => hn (by
    rw [View.set_slice_whole, Rect.mem_set_unit] at h₁ h₂
    obtain ⟨a₁, b₁⟩ := h₁ 0; obtain ⟨a₂, b₂⟩ := h₂ 0
    change t.val ≤ _ at a₁; change _ < t.val + 1 at b₁; change t'.val ≤ _ at a₂; change _ < t'.val + 1 at b₂
    exact Fin.ext (by omega))

/-- The slots' blocks make up the receive buffer. -/
theorem blocksR : Blocks cc0_scratch1 (fun t : Fin 3 × Fin 2 => rR t.1 t.2) where
  cover i := ⟨(i 0, i 1), by
    rw [View.set_slice_whole, Rect.mem_set_unit]
    intro a; fin_cases a
    · exact ⟨Nat.le_refl _, Nat.lt_succ_self _⟩
    · exact ⟨Nat.le_refl _, Nat.lt_succ_self _⟩
    · exact ⟨Nat.zero_le _, by show (i 2).val < 0 + 256; rw [Nat.zero_add]; exact (i 2).isLt⟩
    · exact ⟨Nat.zero_le _, by show (i 3).val < 0 + 256; rw [Nat.zero_add]; exact (i 3).isLt⟩⟩
  apart t t' hn := Finset.disjoint_left.mpr fun i h₁ h₂ => hn (by
    rw [View.set_slice_whole, Rect.mem_set_unit] at h₁ h₂
    obtain ⟨a₁, b₁⟩ := h₁ 0; obtain ⟨a₂, b₂⟩ := h₂ 0; obtain ⟨a₃, b₃⟩ := h₁ 1; obtain ⟨a₄, b₄⟩ := h₂ 1
    change t.1.val ≤ _ at a₁; change _ < t.1.val + 1 at b₁; change t'.1.val ≤ _ at a₂; change _ < t'.1.val + 1 at b₂
    change t.2.val ≤ _ at a₃; change _ < t.2.val + 1 at b₃; change t'.2.val ≤ _ at a₄; change _ < t'.2.val + 1 at b₄
    exact Prod.ext (Fin.ext (by omega)) (Fin.ext (by omega)))

/-- Two blocks, six blocks, one by one. -/
theorem bigSep_two (Φ : Fin 2 → sProp 𝕄) : bigSep Finset.univ Φ = iprop(Φ 0 ∗ Φ 1) := by
  rw [bigSep_univ_eq_bigSepL [0, 1] (by decide) (by decide), bigSepL_cons_cons, bigSepL_singleton]
  rfl
/-- A family over the six copies, member by member. -/
theorem bigSep_six (Φ : Fin 3 × Fin 2 → sProp 𝕄) :
    bigSep Finset.univ Φ = iprop(Φ (0, 0) ∗ Φ (0, 1) ∗ Φ (1, 0) ∗ Φ (1, 1) ∗ Φ (2, 0) ∗ Φ (2, 1)) := by
  rw [bigSep_univ_eq_bigSepL [(0, 0), (0, 1), (1, 0), (1, 1), (2, 0), (2, 1)] (by decide) (by decide)]
  simp only [bigSepL_cons_cons, bigSepL_singleton]
  rfl

end Cert.KernelIdealRun

end
-- ==== Proof.KernelIdealSched.lean ====
/-
What the kernel computes, and the schedule of its semaphores with the contents each of them hands over.
-/
module

public import proofs.«01_k».proof.Proof.KernelIdealProto

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The values -/

/-- What one device starts from: the five staged operands. -/
structure Ins (F : FTy → Type) where
  x : (cc0_stg0_0 : Ref sig .tc).ty.Contents (Elt F)
  wq : (cc0_stg1_0 : Ref sig .tc).ty.Contents (Elt F)
  k : (cc0_stg2_0 : Ref sig .tc).ty.Contents (Elt F)
  v : (cc0_stg3_0 : Ref sig .tc).ty.Contents (Elt F)
  wo : (cc0_stg4_0 : Ref sig .tc).ty.Contents (Elt F)

section Values
variable (I : Ins F)

/-- A head's block of a batch lies in the keys. -/
theorem inbK (b : Fin 2) (h : Fin 4) : ∀ a : Fin 4, (![b.val, h.val, 0, 0] : Fin 4 → ℕ) a + S1x1x256x64.size a ≤ S2x4x256x64.size a := by revert b h; decide

/-- The operands of the query projection, as loaded. -/
def xB : Vec F S512x512 .f32 := xM.view.readAt (Elt F) (Rect.unit (s := S512x512) ![0, 0] S512x512.size inb_S512x512_S512x512_0_0).toLoadRect I.x
/-- The device's columns of the query projection, as loaded. -/
def wB : Vec F S512x256 .f32 := wM.view.readAt (Elt F) (Rect.unit (s := S512x256) ![0, 0] S512x256.size inb_S512x256_S512x256_0_0).toLoadRect I.wq
/-- The query projection of the device's heads. -/
abbrev qW : FVec F S512x256 .f32 := k0_pay1 (xB I) (wB I)

/-- Head `h` of batch `b` of the keys, of the values. -/
def kB (b : Fin 2) (h : Fin 4) : Vec F S1x1x256x64 .f32 := kM.view.readAt (Elt F) (Rect.unit (s := S2x4x256x64) ![b.val, h.val, 0, 0] S1x1x256x64.size (inbK b h)).toLoadRect I.k
/-- Head `h` of batch `b` of the values, as loaded. -/
def vB (b : Fin 2) (h : Fin 4) : Vec F S1x1x256x64 .f32 := vM.view.readAt (Elt F) (Rect.unit (s := S2x4x256x64) ![b.val, h.val, 0, 0] S1x1x256x64.size (inbK b h)).toLoadRect I.v

/-- The two halves of the mask and the mask. -/
abbrev mA : IVec S256x256 1 := k0_pay7 (iota .tc S256x256 32 [0] iota_S256x256_d0_w32) 64#32 k0_pay2 k0_pay3 k0_pay4
/-- The block numbers' second half of the mask. -/
abbrev mB : IVec S256x256 32 := k0_pay8 (iota .tc S256x256 32 [0] iota_S256x256_d0_w32) 64#32 k0_pay2 k0_pay3 k0_pay4
/-- The mask of the scores. -/
abbrev msk : IVec S256x256 1 := k0_pay9 mA mB

/-- The context block of batch 0, of batch 1. -/
def ctx0 : S1x256x256.Idx → Elt F .bf16 :=
  k0_pay17 msk (k0_pay10 (qW I) mA mB (kB I 0 0) (vB I 0 0))
    (k0_pay13 (k0_pay11 (qW I) mA mB (kB I 0 1)) (k0_pay12 (qW I) mA mB (kB I 0 1)) (vB I 0 1))
    (k0_pay14 (qW I) msk (kB I 0 2) (vB I 0 2)) (k0_pay15 (qW I) (kB I 0 3)) k0_pay16 (vB I 0 3)
/-- The context of batch 1. -/
def ctx1 : S1x256x256.Idx → Elt F .bf16 :=
  k0_pay24 (k0_pay19 msk (k0_pay18 (qW I)) (kB I 1 0) (vB I 1 0)) (k0_pay21 (k0_pay20 (qW I) msk (kB I 1 1)) (vB I 1 1))
    (k0_pay22 (qW I) msk (kB I 1 2) (vB I 1 2)) (k0_pay23 (qW I) msk (kB I 1 3)) (vB I 1 3)
/-- The context of a batch. -/
def ctxW (b : Fin 2) : S1x256x256.Idx → Elt F .bf16 := match b with | 0 => ctx0 I | 1 => ctx1 I

/-- A context block as the landing slot holds it. -/
def land (w : S1x256x256.Idx → Elt F .bf16) : S1x1x256x256.Idx → Elt F .bf16 :=
  shapeCast S1x1x256x256 (shapeCast S256x256 w squeezes_S1x256x256_S256x256.numel_eq.symm) squeezes_S1x1x256x256_S256x256.numel_eq

/-- The rows of the output projection of device `c`'s own block, of the block of slot `r`. -/
def woO (c : Dev nD) : Vec F S256x512 .f32 := pM.view.readAt (Elt F) (Rect.unit (s := S1024x512) (k0_off1 c) S256x512.size (k0_off1_inb c)).toLoadRect I.wo
/-- The rows of the output projection for the context in slot `r`. -/
def woK (c : Dev nD) (r : Fin 3) : Vec F S256x512 .f32 :=
  pM.view.readAt (Elt F) (Rect.unit (s := S1024x512) (k0_off2 c (BitVec.ofNat 32 r.val)) S256x512.size (k0_off2_inb c r)).toLoadRect I.wo

end Values

section Outs
variable (I : Dev nD → Ins F) (c : Dev nD)

/-- What slot `k` of batch `b` holds on device `c` once the copy has landed. -/
def landed (k : Fin 3) (b : Fin 2) : S1x1x256x256.Idx → Elt F .bf16 := land (ctxW (I (org c k)) b)

/-- The output's block of batch 0 after each accumulation. -/
def a0 : S1x256x512.Idx → Elt F .f32 := k0_pay27 (k0_pay26 (woO (I c) c) (ctxW (I c) 0))
/-- Batch 0 after the context of slot 0, -/
def a1 : S1x256x512.Idx → Elt F .f32 := k0_pay30 (k0_pay29 (woK (I c) c 0)) (a0 I c) (landed I c 0 0)
/-- after that of slot 2, -/
def a2 : S1x256x512.Idx → Elt F .f32 :=
  k0_pay37 (k0_pay34 (woK (I c) c 2)) (k0_pay35 (a1 I c)) (k0_pay36 (landed I c 2 0)) (constant S256x512 .f32 0x00000000#32)
/-- after that of slot 1. -/
def a3 : S1x256x512.Idx → Elt F .f32 := k0_pay40 (woK (I c) c 1) (a2 I c) (landed I c 1 0)
/-- The output's block of batch 1 after each accumulation. -/
def b0 : S1x256x512.Idx → Elt F .f32 := k0_pay28 (k0_pay25 (woO (I c) c)) (ctxW (I c) 1)
/-- Batch 1 after the context of slot 0, -/
def b1 : S1x256x512.Idx → Elt F .f32 :=
  k0_pay33 (k0_pay29 (woK (I c) c 0)) (k0_pay31 (b0 I c)) (k0_pay32 (landed I c 0 1)) (constant S256x512 .f32 0x00000000#32)
/-- after that of slot 2, -/
def b2 : S1x256x512.Idx → Elt F .f32 := k0_pay38 (k0_pay34 (woK (I c) c 2)) (b1 I c) (landed I c 2 1)
/-- after that of slot 1. -/
def b3 : S1x256x512.Idx → Elt F .f32 := k0_pay41 (k0_pay39 (woK (I c) c 1)) (b2 I c) (landed I c 1 1)
/-- The output's blocks at the end. -/
def outW (b : Fin 2) : S1x256x512.Idx → Elt F .f32 := match b with | 0 => a3 I c | 1 => b3 I c

end Outs

/-- The block that the copy leaves in the slot, read as the kernel reads the slot. -/
theorem landed_read (k : Fin 3) (b : Fin 2) (fd : (cc0_scratch1 : Ref sig .tc).ty.Contents (Elt F)) (w : S1x256x256.Idx → Elt F .bf16) :
    (rV k b).read (Elt F) ((dS k b).view.write (Elt F) fd ((cS b).view.read (Elt F) ((cV b).rep w)) Finset.univ) = land w := by
  funext x
  have h := squeezes_S1x1x256x256_S256x256.numel_eq
  have hx : (rV k b).emb x = (dS k b).view.emb (Shape.reshapeEquiv h.symm x) := by
    have e : (dS k b).view.emb (Shape.reshapeEquiv h.symm x) = (rV k b).emb (Shape.reshapeEquiv h (Shape.reshapeEquiv h.symm x)) := rfl
    rw [e, Shape.reshapeEquiv_reshapeEquiv, Shape.reshapeEquiv_self]
  rw [View.read_apply, hx, View.write_emb_of_mem _ _ (Finset.mem_univ _), View.read_apply]
  have e : (cS b).view.emb (Shape.reshapeEquiv h.symm x)
      = (cV b).emb (Shape.reshapeEquiv squeezes_S1x256x256_S256x256.numel_eq (Shape.reshapeEquiv h.symm x)) := rfl
  rw [e, View.rep_emb]
  rfl

/-! ## The schedule -/

section Sched
variable (I : Dev nD → Ins F)

/-- The share of the own context block that copy `k` reads; the three of them and the kept rest make it whole. -/
def shr (k : Fin 3) : PosShare TreeShare := match k with
  | 0 => fullShare.left.left
  | 1 => fullShare.left.right
  | 2 => fullShare.right.left

/-- A landing slot at contents not chosen. -/
def slotAny (c : Dev nD) (k : Fin 3) (b : Fin 2) : sProp 𝕄 := iprop(∃ w, slab (rV k b) c fullShare w)
instance slotAny_storable (c : Dev nD) (k : Fin 3) (b : Fin 2) : BI.Storable (upEmb : UEmb _ 𝕄) (slotAny (F := F) c k b) := by unfold slotAny; infer_instance

/-- Paid to the barrier cell of `c` by device `tgt c k`: that device's slots `k`, and that round 0 of their receive cells is reached. -/
def barPay (c : Dev nD) (k : Fin 3) : sProp 𝕄 :=
  iprop((slotAny (tgt c k) k 0 ∗ reached ER (vCell (tgt c k) k 0) 0) ∗ (slotAny (tgt c k) k 1 ∗ reached ER (vCell (tgt c k) k 1) 0))
/-- Paid to the send cell: the share of the source block back. -/
def sendPay (c : Dev nD) (k : Fin 3) (b : Fin 2) : sProp 𝕄 := slab (cV b) c (shr k) (ctxW (I c) b)
/-- Paid to the receive cell: the slot, at the block of the device it came from. -/
def recvPay (c : Dev nD) (k : Fin 3) (b : Fin 2) : sProp 𝕄 := slab (rV k b) c fullShare (landed I c k b)

/-- The slot and the batch that the `j`th semaphore of an array belongs to. -/
def kOf (j : ℕ) : Fin 3 := ⟨j / 2 % 3, Nat.mod_lt _ (by decide)⟩
/-- The batch that the semaphore at a place of its row belongs to. -/
def bOf (j : ℕ) : Fin 2 := ⟨j % 2, Nat.mod_lt _ (by decide)⟩
/-- The semaphore of copy `(k, b)` belongs to slot `k` -/
theorem kOf_eq (k : Fin 3) (b : Fin 2) : kOf (2 * k.val + b.val) = k := by revert k b; decide
/-- and to batch `b`. -/
theorem bOf_eq (k : Fin 3) (b : Fin 2) : bOf (2 * k.val + b.val) = b := by revert k b; decide

/-- The duties of a semaphore in its one round. -/
def dutiesOf : SemLoc sig → Finset (Fin 3)
  | .reg _ => Finset.univ
  | .dma q => if 6 ≤ q.val then {0} else ∅
/-- What a duty of a semaphore of device `c` hands over. -/
def payOf (c : Dev nD) (d : Fin 3) : SemLoc sig → sProp 𝕄
  | .reg _ => barPay c d
  | .dma q => if q.val < 12 then sendPay I c (kOf (q.val - 6)) (bOf (q.val - 6)) else recvPay I c (kOf (q.val - 12)) (bOf (q.val - 12))
/-- What a duty of a semaphore credits. -/
def amountOf : SemLoc sig → ℕ
  | .reg _ => 1
  | .dma _ => N

/-- One round on every semaphore. -/
def rd : Rounds.Schedule (GSem nD τ sig) (Fin 3) 𝕄 where
  duties g r := if r = 0 ∧ g.1.2 = .tc then dutiesOf g.2 else ∅
  unitless _ := False
  amount g _ _ := amountOf g.2
  payload g _ d := payOf I g.1.1 d g.2
  amount_pos g _ _ _ := by
    rcases g with ⟨_, _ | _⟩
    · exact Nat.one_pos
    · exact N_pos

instance rd_payload_storable (g : GSem nD τ sig) (r : ℕ) (d : Fin 3) : BI.Storable (upEmb : UEmb _ 𝕄) ((rd I).payload g r d) := by
  show BI.Storable upEmb (payOf I g.1.1 d g.2)
  unfold payOf barPay sendPay recvPay
  (repeat' split) <;> infer_instance

variable (c : Dev nD)

/-- A barrier round has the three others' signals, -/
theorem duties_bar : (rd I).duties (barCell c) 0 = Finset.univ := by dsimp only [rd]; exact if_pos ⟨rfl, rfl⟩
/-- a copy's counter one landing, -/
theorem duties_dma (q : DmaSem sig) (h : 6 ≤ q.val) : (rd I).duties ((c : Thread nD τ), .dma q) 0 = {0} := by
  dsimp only [rd]; rw [if_pos ⟨rfl, rfl⟩]; exact if_pos h
/-- and no later round has any. -/
theorem duties_later (g : GSem nD τ sig) : ∀ r, 1 ≤ r → (rd I).duties g r = ∅ :=
  fun r hr => by dsimp only [rd]; exact if_neg fun h => by omega

/-- A signal counts one, -/
theorem amount_bar (d : Fin 3) : (rd I).amount (barCell c) 0 d = 1 := rfl
/-- a landing the copy's units. -/
theorem amount_dma (q : DmaSem sig) (d : Fin 3) : (rd I).amount ((c : Thread nD τ), .dma q) 0 d = N := rfl

/-- The barrier waits for three, -/
theorem expect_bar : (rd I).expect (barCell c) 0 = 3 := by
  unfold Schedule.expect Schedule.amountOf
  rw [duties_bar, Finset.sum_congr rfl fun d _ => amount_bar I c d, Finset.sum_const, Finset.card_univ, Fintype.card_fin, smul_eq_mul]
/-- a copy's wait for the copy's units. -/
theorem expect_dma (q : DmaSem sig) (h : 6 ≤ q.val) : (rd I).expect ((c : Thread nD τ), .dma q) 0 = N := by
  unfold Schedule.expect Schedule.amountOf; rw [duties_dma I c q h, Finset.sum_singleton, amount_dma]

/-- A signal hands over the signaller's slot for the device, -/
theorem payload_bar (d : Fin 3) : (rd I).payload (barCell c) 0 d = barPay c d := rfl
/-- a send's end the source back, -/
theorem payload_s (k : Fin 3) (b : Fin 2) (d : Fin 3) : (rd I).payload (sCell c k b) 0 d = sendPay I c k b := by
  show (if 6 + (2 * k.val + b.val) < 12 then sendPay I c (kOf (6 + (2 * k.val + b.val) - 6)) (bOf (6 + (2 * k.val + b.val) - 6)) else _) = _
  rw [if_pos (by omega), Nat.add_sub_cancel_left, kOf_eq, bOf_eq]
/-- a landing the slot with the origin's context. -/
theorem payload_v (k : Fin 3) (b : Fin 2) (d : Fin 3) : (rd I).payload (vCell c k b) 0 d = recvPay I c k b := by
  show (if 12 + (2 * k.val + b.val) < 12 then _ else recvPay I c (kOf (12 + (2 * k.val + b.val) - 12)) (bOf (12 + (2 * k.val + b.val) - 12))) = _
  rw [if_neg (by omega), Nat.add_sub_cancel_left, kOf_eq, bOf_eq]

/-- All that a barrier round hands over, -/
theorem rest_bar : bigSep ((rd I).duties (barCell c) 0 \ ∅) (fun d => (rd I).payload (barCell c) 0 d) = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton]
  rfl
/-- all that a copy's counter hands over. -/
theorem rest_dma (q : DmaSem sig) (h : 6 ≤ q.val) :
    bigSep ((rd I).duties ((c : Thread nD τ), .dma q) 0 \ ∅) (fun d => (rd I).payload ((c : Thread nD τ), .dma q) 0 d)
      = (rd I).payload ((c : Thread nD τ), .dma q) 0 0 := by
  rw [Finset.sdiff_empty, duties_dma I c q h, bigSep_singleton]

end Sched

/-! ## What each device owes at launch; the levels -/

/-- The tallies of a list of payments, the first one outermost. -/
def debt : List (GSem nD τ sig × ℕ) → CellTallies nD τ sig Unit
  | [] => 0
  | p :: l => debt l + tallyAt p.1 () p.2

/-- What a list of payments owes is owed to a cell of the list. -/
theorem debt_pos {l : List (GSem nD τ sig × ℕ)} {g : GSem nD τ sig} {u : Unit} (h : 0 < debt l g u) : ∃ p ∈ l, g = p.1 := by
  induction l with
  | nil => exact absurd h (Nat.lt_irrefl 0)
  | cons p l ih =>
    unfold debt at h
    rw [Pi.add_apply, Finsupp.add_apply, tallyAt_apply] at h
    by_cases hp : g = p.1
    · exact ⟨p, List.mem_cons_self, hp⟩
    · rw [if_neg fun h' => hp h'.1, Nat.add_zero] at h
      obtain ⟨p', hm, he⟩ := ih h
      exact ⟨p', List.mem_cons_of_mem _ hm, he⟩

/-- The copies of a device, in order. -/
abbrev sends : List (Fin 3 × Fin 2) := [(2, 0), (1, 0), (0, 0), (2, 1), (1, 1), (0, 1)]
/-- The receive credits a device owes for a list of copies; with the three barrier units before them, all it owes. -/
abbrev vPays (c : Dev nD) (l : List (Fin 3 × Fin 2)) : List (GSem nD τ sig × ℕ) := l.map fun p => (vCell (tgt c p.1) p.1 p.2, N)
/-- The barrier payments of `c` for the listed slots. -/
abbrev bPays (c : Dev nD) (l : List (Fin 3)) : List (GSem nD τ sig × ℕ) := l.map fun k => (barCell (org c k), 1)
/-- All that device `c` owes at the start: three signals and six landings. -/
abbrev O₀ (c : Dev nD) : CellTallies nD τ sig Unit := debt (bPays c [0, 1, 2] ++ vPays c sends)

/-- Every counter of a TensorCore has the one level index. -/
def L (g : GSem nD τ sig) : Finset Unit := if g.1.2 = .tc then {()} else ∅
/-- The level of a semaphore: the barrier 1, a receive semaphore 2, the others 0. -/
def lvOf : SemLoc sig → ℕ
  | .reg _ => 1
  | .dma q => if 12 ≤ q.val then 2 else 0
/-- The level of a counter: its semaphore's. -/
def lv (g : GSem nD τ sig) (_ : Unit) : ℕ := lvOf g.2

/-- Other processors' counters have no level index, -/
theorem L_of_ne (g : GSem nD τ sig) (h : g.1.2 ≠ .tc) : L g = ∅ := if_neg h
/-- a TensorCore's counter has one. -/
theorem L_tc (c : Dev nD) (sm : SemLoc sig) : L ((c : Thread nD τ), sm) = {()} := if_pos rfl

/-- A wait at a level below everything owed is allowed. -/
theorem mayWait_debt (c : Dev nD) (sm : SemLoc sig) (l : List (GSem nD τ sig × ℕ)) (n : ℕ) (h0 : lvOf sm = n)
    (hl : ∀ p ∈ l, (∃ (d : Dev nD) (s : SemLoc sig), p.1 = ((d : Thread nD τ), s)) ∧ n < lvOf p.1.2) :
    (levAts L lv : sProp 𝕄) ⊢ MayWait (c : Thread nD τ) sm () (debt l) :=
  MayOwe.of_cut (L := L) (lev := lv) n (fun p hp => by rw [Finset.mem_singleton.mp hp, L_tc]; exact Finset.mem_singleton_self _)
    (fun g u hg => by
      obtain ⟨p, hm, rfl⟩ := debt_pos hg
      obtain ⟨⟨d, s, e⟩, -⟩ := hl p hm
      rw [e, L_tc]; exact Finset.mem_singleton_self _)
    (fun p hp => by rw [Finset.mem_singleton.mp hp]; exact h0.le)
    (fun g u hg => by
      obtain ⟨p, hm, rfl⟩ := debt_pos hg
      exact (hl p hm).2)

/-- The receive counters are at level 2, -/
theorem lvOf_v (k : Fin 3) (b : Fin 2) : lvOf (.dma (vD k b)) = 2 := if_pos (Nat.le_add_right _ _)

/-- so the landings still owed are above the barrier's wait. -/
theorem vPays_lv (c : Dev nD) (l : List (Fin 3 × Fin 2)) (p) (hp : p ∈ vPays c l) :
    (∃ (d : Dev nD) (s : SemLoc sig), p.1 = ((d : Thread nD τ), s)) ∧ 1 < lvOf p.1.2 := by
  obtain ⟨kb, -, rfl⟩ := List.mem_map.mp hp
  exact ⟨⟨_, _, rfl⟩, by rw [lvOf_v]; decide⟩

/-- At its barrier wait a device owes receive credits only. -/
theorem mayWait_bar (c : Dev nD) : (levAts L lv : sProp 𝕄) ⊢ MayWait (c : Thread nD τ) (.reg barS) () (debt (vPays c sends)) :=
  mayWait_debt c _ _ 1 rfl (vPays_lv c sends)

/-- A staging semaphore's wait is allowed at all it owes. -/
theorem mayWait_stage (c : Dev nD) (q : DmaSem sig) (hq : q.val < 12) : (levAts L lv : sProp 𝕄) ⊢ MayWait (c : Thread nD τ) (.dma q) () (O₀ c) :=
  mayWait_debt c _ _ 0 (if_neg (Nat.not_le.mpr hq)) fun p hp => by
    rcases List.mem_append.mp hp with hp | hp
    · obtain ⟨k, -, rfl⟩ := List.mem_map.mp hp
      exact ⟨⟨_, _, rfl⟩, Nat.one_pos⟩
    · exact ⟨(vPays_lv c sends p hp).1, (vPays_lv c sends p hp).2.trans' Nat.one_pos⟩

end Cert.KernelIdealRun

end
-- ==== Proof.KernelIdealSteps.lean ====
/-
One rule per communication of the kernel: a barrier unit, the barrier wait, a copy, the wait for a landed block, the
wait for a source share.
-/
module

public import proofs.«01_k».proof.Proof.KernelIdealSched

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The cells of the protocol -/

/-- The kernel's own scoped semaphores: six send and six receive semaphores. -/
abbrev osem : Fin 12 → SemLoc sig := fun j => .dma ⟨6 + j.val, by show _ < 18; omega⟩
/-- The twelve semaphores are distinct. -/
theorem osem_inj : Function.Injective osem := by decide

/-- The barrier counters by device. -/
def barEmb : Dev nD ↪ GSem nD τ sig := ⟨fun c => barCell c, fun _ _ h => congrArg (fun g : GSem nD τ sig => g.1.1) h⟩
/-- The copies' counters by device and semaphore. -/
def scEmb : Dev nD × Fin 12 ↪ GSem nD τ sig :=
  ⟨fun ck => ((ck.1 : Thread nD τ), osem ck.2), fun _ _ h =>
    Prod.ext (congrArg (fun g : GSem nD τ sig => g.1.1) h) (osem_inj (congrArg Prod.snd h))⟩

/-- The barrier cells, the send and receive cells. -/
abbrev barCells : Finset (GSem nD τ sig) := Finset.univ.map barEmb
/-- All the copies' counters. -/
abbrev scCells : Finset (GSem nD τ sig) := Finset.univ.map scEmb

/-- A barrier counter is one of the protocol's, -/
theorem bar_mem (c : Dev nD) : barCell c ∈ (barCells ∪ scCells : Finset (GSem nD τ sig)) :=
  Finset.mem_union_left _ (Finset.mem_map_of_mem barEmb (Finset.mem_univ c))
/-- so is a send counter -/
theorem s_mem (c : Dev nD) (k : Fin 3) (b : Fin 2) : sCell c k b ∈ (barCells ∪ scCells : Finset (GSem nD τ sig)) :=
  Finset.mem_union_right _ (Finset.mem_map.mpr ⟨(c, ⟨2 * k.val + b.val, by omega⟩), Finset.mem_univ _, rfl⟩)
/-- and a receive counter. -/
theorem v_mem (c : Dev nD) (k : Fin 3) (b : Fin 2) : vCell c k b ∈ (barCells ∪ scCells : Finset (GSem nD τ sig)) :=
  Finset.mem_union_right _ (Finset.mem_map.mpr ⟨(c, ⟨6 + (2 * k.val + b.val), by omega⟩), Finset.mem_univ _,
    congrArg (fun q => ((c : Thread nD τ), SemLoc.dma q)) (Fin.ext (by show 6 + (6 + _) = 12 + _; omega))⟩)

variable (I : Dev nD → Ins F) (κ : GSem nD τ sig → ℕ)

/-- What every device may consult: all the invariants under one map of names; round 0 of every barrier cell reached. -/
def records : sProp 𝕄 :=
  iprop((bigSep (barCells ∪ scCells) fun g => cellInv ER (rd I) (κ g) g) ∗ bigSep barCells fun g => reached ER g 0)
instance records_persistent : BI.Persistent (records I κ) := by unfold records; infer_instance

/-- The records hold the invariant of each of the protocol's counters -/
theorem inv_at {g : GSem nD τ sig} (hg : g ∈ (barCells ∪ scCells : Finset (GSem nD τ sig))) :
    records I κ ⊢ cellInv ER (rd I) (κ g) g := by
  unfold records
  have h : (bigSep (barCells ∪ scCells) fun g => (cellInv ER (rd I) (κ g) g : sProp 𝕄)) ⊢ cellInv ER (rd I) (κ g) g := bigSep_elim hg
  iintro ⟨H, -⟩; iapply h; iexact H
/-- and that each barrier has reached its round. -/
theorem reached_at (c : Dev nD) : records I κ ⊢ reached ER (barCell c) 0 := by
  unfold records
  have h : (bigSep barCells fun g => (reached ER g 0 : sProp 𝕄)) ⊢ reached ER (barCell c) 0 := bigSep_elim (Finset.mem_map_of_mem barEmb (Finset.mem_univ c))
  iintro ⟨-, H⟩; iapply h; iexact H

/-- A device owes `O`, whatever it has waited for. -/
def owesAny (c : Dev nD) (O : CellTallies nD τ sig Unit) : sProp 𝕄 := iprop(∃ W, owes (c : Thread nD τ) O W)

/-! ## The steps -/

section Steps
variable (c : Dev nD)

/-- The barrier unit of duty `k`, to device `org c k`: it carries the device's two slots `k`. -/
theorem signal_step (k : Fin 3) (l : List (GSem nD τ sig × ℕ)) (n : Dev nD) (hn : n = org c k) {s : Sem sig} (hs : s = barS) {a : ℕ} (ha : a = 1) {α : Type} {Q : α → sProp 𝕄} {K : PUnit → Prog (TpuEff nD τ sig (Elt F) Λ₀ .tc) α} :
    iprop(records I κ ∗ owesAny c (debt ((barCell (org c k), 1) :: l)) ∗ dutyTok ER (barCell (org c k)) 0 k
        ∗ (slotAny c k 0 ∗ reached ER (vCell c k 0) 0) ∗ (slotAny c k 1 ∗ reached ER (vCell c k 1) 0))
      ⊢ iprop((owesAny c (debt l) -∗ wp frame (wpE (defs₀ (F := F)) 𝒱₀ (c : Thread nD τ) none) Set.univ (K ⟨⟩) Q)
          -∗ wp frame (wpE (defs₀ (F := F)) 𝒱₀ (c : Thread nD τ) none) Set.univ (.op (.semSignal (Dev.tc n : Thread nD τ) s a) K) Q) := by
  subst hn hs ha
  unfold owesAny
  iintro ⟨#HR, ⟨%W, HO⟩, Ht, Hp⟩ Hk
  iapply (Rounds.wp_signal 𝒱₀ ER (rd I) (c : Thread nD τ) none (dst := (org c k : Thread nD τ)) (κ := κ (barCell (org c k)))
      (d := k) (by rw [duties_bar]; exact Finset.mem_univ _) (amount_bar I (org c k) k) () (debt l) rfl) $$ [HO Ht Hp]
  · isplitr; · iapply (inv_at I κ (bar_mem (org c k))); iexact HR
    isplitl [HO]; · iexact HO
    isplitl [Ht]; · iexact Ht
    isplitl [Hp]
    · rw [payload_bar]; unfold barPay; rw [tgt_org]; iexact Hp
    · iapply (reached_at I κ (org c k)); iexact HR
  iintro HO
  iapply Hk; iexists W; iexact HO

/-- The barrier wait for the three units: the slots that the device will copy to come with it. -/
theorem barrier_step {s : Sem sig} (hs : s = barS) {a : ℕ} (ha : a = 3) {α : Type} {Q : α → sProp 𝕄} {K : PUnit → Prog (TpuEff nD τ sig (Elt F) Λ₀ .tc) α} :
    iprop(records I κ ∗ levAts L lv ∗ cred (tallyAt (barCell c) () 3) ∗ owesAny c (debt (vPays c sends)) ∗ atPos ER (barCell c) 0 ∅ 0)
      ⊢ iprop(((owesAny c (debt (vPays c sends)) ∗ semVal (barCell c) 0 ∗ barPay c 0 ∗ barPay c 1 ∗ barPay c 2)
            -∗ wp frame (wpE (defs₀ (F := F)) 𝒱₀ (c : Thread nD τ) none) Set.univ (K ⟨⟩) Q)
          -∗ wp frame (wpE (defs₀ (F := F)) 𝒱₀ (c : Thread nD τ) none) Set.univ (.op (.semWait s a) K) Q) := by
  subst hs ha
  unfold owesAny
  iintro ⟨#HR, #Hl, Hc, ⟨%W, HO⟩, Hat⟩ Hk
  iapply (Rounds.wp_wait_rest_token 𝒱₀ ER (rd I) (c : Thread nD τ) none (κ := κ (barCell c))
      (wpE_semWait_eq 𝒱₀ (c : Thread nD τ) none Set.univ) (Set.mem_univ _) () (O := debt (vPays c sends)) (W := W) (R := 0) (m := 0) (T := ∅)
      (by rw [expect_bar])) $$ [Hc HO Hat]
  · isplitr; · iapply (inv_at I κ (bar_mem c)); iexact HR
    isplitl [Hc]; · iexact Hc
    isplitl [HO]; · iexact HO
    isplitr; · iapply (mayWait_bar (F := F) c); iexact Hl
    iexact Hat
  iintro ⟨HO, Hat, -, Hpay⟩
  imod (Rounds.cell_close ER (rd I) (Set.mem_univ (κ (barCell c))) (fun h => h) (R := 0 + 1) (duties_later I (barCell c))) $$ [Hat] with Hz
  · isplitr; · iapply (inv_at I κ (bar_mem c)); iexact HR
    iexact Hat
  iapply Hk
  isplitl [HO]; · iexists _; iexact HO
  isplitl [Hz]; · iexact Hz
  iapply (Entails.of_eq (rest_bar I c)); iexact Hpay

/-- What a copy takes besides its source: its two duty tokens, and that round 0 of its send cell is reached. -/
def sendRes (k : Fin 3) (b : Fin 2) : sProp 𝕄 :=
  iprop(dutyTok ER (sCell c k b) 0 0 ∗ reached ER (sCell c k b) 0 ∗ dutyTok ER (vCell (tgt c k) k b) 0 0)

/-- Copy `(k, b)`: the share `shr k` of the own block goes with it, the slot of the target too. -/
theorem send_step (k : Fin 3) (b : Fin 2) (l : List (GSem nD τ sig × ℕ)) (n : Dev nD) (hn : n = tgt c k)
    {src dst : Memref sig .tc .vmem S256x256 .bf16} (h₁ : src = cS b) (h₂ : dst = dS k b) {q q' : DmaSem sig} (h₃ : q = sD k b) (h₄ : q' = vD k b)
    {hsc : (dst : Memref sig (Dev.tc n : Thread nD τ).2.kind .vmem S256x256 .bf16).view.ref.isScScratch = false}
    {hsrc : src.view.WordExact} {hdst : dst.view.WordExact}
    {hsem : DmaTarget.Typed .vmem (.dma q') (.remote (Dev.tc n : Thread nD τ) dst (.dma q) hsc)} {α : Type} {Q : α → sProp 𝕄} {K : PUnit → Prog (TpuEff nD τ sig (Elt F) Λ₀ .tc) α} :
    iprop(records I κ ∗ owesAny c (debt ((vCell (tgt c k) k b, N) :: l)) ∗ slab (cV b) c (shr k) (ctxW (I c) b)
        ∗ (slotAny (tgt c k) k b ∗ reached ER (vCell (tgt c k) k b) 0) ∗ sendRes c k b)
      ⊢ iprop(((owesAny c (debt l) ∗ cred (tallyAt (sCell c k b) () N))
            -∗ wp frame (wpE (defs₀ (F := F)) 𝒱₀ (c : Thread nD τ) none) Set.univ (K ⟨⟩) Q)
          -∗ wp frame (wpE (defs₀ (F := F)) 𝒱₀ (c : Thread nD τ) none) Set.univ
              (.op (.enqueueDma src (.remote (Dev.tc n : Thread nD τ) dst (.dma q) hsc) (.dma q') hsrc hdst hsem) K) Q) := by
  subst hn h₁ h₂ h₃ h₄
  unfold owesAny slotAny sendRes
  iintro ⟨#HR, ⟨%W, HO⟩, Hs, ⟨⟨%w, Hd⟩, #Hr⟩, Ht, #Hrs, Htv⟩ Hk
  iapply (Rounds.wp_send_pointsTo 𝒱₀ ER (rd I) (c : Thread nD τ) none (c' := (tgt c k : Thread nD τ)) (κ₁ := κ (sCell c k b)) (κ₂ := κ (vCell (tgt c k) k b))
    (src := cS b) (dst := dS k b) (r₁ := 0) (r₂ := 0) (d₁ := 0) (d₂ := 0) (fs := (cV b).rep (ctxW (I c) b)) (fd := (rV k b).rep w) (q := shr k)
    (by rw [duties_dma I c (sD k b) (Nat.le_add_right _ _)]; exact Finset.mem_singleton_self _)
    (by rw [duties_dma I (tgt c k) (vD k b) (by show 6 ≤ 12 + _; omega)]; exact Finset.mem_singleton_self _)
    () () N rfl (amount_dma I c (sD k b) 0) (amount_dma I (tgt c k) (vD k b) 0) (debt l) rfl (W := W)
    (by rw [payload_s]; unfold sendPay slab; rw [View.set_reshape])
    (by
      rw [payload_v]; unfold recvPay landed; rw [org_tgt]
      have h := slab_of (F := F) (rV k b) (tgt c k) fullShare ((dS k b).view.write (Elt F) ((rV k b).rep w) ((cS b).view.read (Elt F) ((cV b).rep (ctxW (I c) b))) Finset.univ)
      rw [landed_read] at h
      rw [← h, View.set_reshape])) $$ [HO Hs Hd Ht Htv]
  · isplitr; · iapply (inv_at I κ (s_mem c k b)); iexact HR
    isplitr; · iapply (inv_at I κ (v_mem (tgt c k) k b)); iexact HR
    isplitl [Hs]; · unfold slab; rw [View.set_reshape]; iexact Hs
    isplitl [Hd]; · unfold slab; rw [View.set_reshape]; iexact Hd
    isplitl [HO]; · iexact HO
    isplitl [Ht]; · iexact Ht
    isplitr; · iexact Hrs
    isplitl [Htv]; · iexact Htv
    iexact Hr
  iintro ⟨Hc, HO⟩
  iapply Hk
  isplitl [HO]; · iexists W; iexact HO
  iexact Hc

/-- A wait on a send or receive cell, owing nothing: its payload, and the cell closed. -/
theorem wait_step (q : DmaSem sig) (hq : 6 ≤ q.val) (hm : ((c : Thread nD τ), SemLoc.dma q) ∈ (barCells ∪ scCells : Finset (GSem nD τ sig)))
    {src dst : Memref sig .tc .vmem S256x256 .bf16} {q' : DmaSem sig} (h : q' = q) (hN : dst.view.dmaCredit = N)
    {hsrc : src.view.WordExact} {hdst : dst.view.WordExact} {α : Type} {Q : α → sProp 𝕄} {K : PUnit → Prog (TpuEff nD τ sig (Elt F) Λ₀ .tc) α} :
    iprop(records I κ ∗ owesAny c 0 ∗ cred (tallyAt ((c : Thread nD τ), SemLoc.dma q) () N) ∗ atPos ER ((c : Thread nD τ), SemLoc.dma q) 0 ∅ 0)
      ⊢ iprop(((owesAny c 0 ∗ semVal ((c : Thread nD τ), SemLoc.dma q) 0 ∗ (rd I).payload ((c : Thread nD τ), .dma q) 0 0)
            -∗ wp frame (wpE (defs₀ (F := F)) 𝒱₀ (c : Thread nD τ) none) Set.univ (K ⟨⟩) Q)
          -∗ wp frame (wpE (defs₀ (F := F)) 𝒱₀ (c : Thread nD τ) none) Set.univ (.op (.waitDma2 q' src dst hsrc hdst) K) Q) := by
  subst h
  unfold owesAny
  iintro ⟨#HR, ⟨%W, HO⟩, Hc, Hat⟩ Hk
  iapply (Rounds.wp_wait_rest_token 𝒱₀ ER (rd I) (c : Thread nD τ) none (κ := κ ((c : Thread nD τ), SemLoc.dma q'))
      (wpE_waitDma2_eq 𝒱₀ (c : Thread nD τ) none Set.univ) (Set.mem_univ _) () (O := 0) (W := W) (R := 0) (m := 0) (T := ∅)
      (by rw [Nat.zero_add, hN, expect_dma I c q' hq])) $$ [Hc HO Hat]
  · isplitr; · iapply (inv_at I κ hm); iexact HR
    isplitl [Hc]; · iexact Hc
    isplitl [HO]; · iexact HO
    isplitr; · rw [MayWait_zero]; iempintro
    iexact Hat
  iintro ⟨HO, Hat, -, Hpay⟩
  imod (Rounds.cell_close ER (rd I) (Set.mem_univ (κ ((c : Thread nD τ), SemLoc.dma q'))) (fun h => h) (R := 0 + 1) (duties_later I _)) $$ [Hat] with Hz
  · isplitr; · iapply (inv_at I κ hm); iexact HR
    iexact Hat
  iapply Hk
  isplitl [HO]; · iexists _; iexact HO
  isplitl [Hz]; · iexact Hz
  iapply (Entails.of_eq (rest_dma I c q' hq)); iexact Hpay

/-- What the wait for a landed block takes, what the wait for a source share takes. -/
def recvRes (k : Fin 3) (b : Fin 2) : sProp 𝕄 := iprop(cred (tallyAt (vCell c k b) () N) ∗ atPos ER (vCell c k b) 0 ∅ 0)

/-- The wait for the block of slot `(k, b)`. -/
theorem recv_step (k : Fin 3) (b : Fin 2) {src dst : Memref sig .tc .vmem S256x256 .bf16} {q' : DmaSem sig} (h : q' = vD k b) (hN : dst.view.dmaCredit = N)
    {hsrc : src.view.WordExact} {hdst : dst.view.WordExact} {α : Type} {Q : α → sProp 𝕄} {K : PUnit → Prog (TpuEff nD τ sig (Elt F) Λ₀ .tc) α} :
    iprop(records I κ ∗ owesAny c 0 ∗ recvRes c k b)
      ⊢ iprop(((owesAny c 0 ∗ semVal (vCell c k b) 0 ∗ slab (rV k b) c fullShare (landed I c k b))
            -∗ wp frame (wpE (defs₀ (F := F)) 𝒱₀ (c : Thread nD τ) none) Set.univ (K ⟨⟩) Q)
          -∗ wp frame (wpE (defs₀ (F := F)) 𝒱₀ (c : Thread nD τ) none) Set.univ (.op (.waitDma2 q' src dst hsrc hdst) K) Q) := by
  have H := wait_step (F := F) I κ c (Q := Q) (K := K) (vD k b) (by show 6 ≤ 12 + _; omega) (v_mem c k b) (src := src) (dst := dst) h hN (hsrc := hsrc) (hdst := hdst)
  rw [payload_v] at H
  exact H

/-- The wait for the source share of copy `(k, b)`. -/
theorem sent_step (k : Fin 3) (b : Fin 2) {src dst : Memref sig .tc .vmem S256x256 .bf16} {q' : DmaSem sig} (h : q' = sD k b) (hN : dst.view.dmaCredit = N)
    {hsrc : src.view.WordExact} {hdst : dst.view.WordExact} {α : Type} {Q : α → sProp 𝕄} {K : PUnit → Prog (TpuEff nD τ sig (Elt F) Λ₀ .tc) α} :
    iprop(records I κ ∗ owesAny c 0 ∗ cred (tallyAt (sCell c k b) () N) ∗ atPos ER (sCell c k b) 0 ∅ 0)
      ⊢ iprop(((owesAny c 0 ∗ semVal (sCell c k b) 0 ∗ slab (cV b) c (shr k) (ctxW (I c) b))
            -∗ wp frame (wpE (defs₀ (F := F)) 𝒱₀ (c : Thread nD τ) none) Set.univ (K ⟨⟩) Q)
          -∗ wp frame (wpE (defs₀ (F := F)) 𝒱₀ (c : Thread nD τ) none) Set.univ (.op (.waitDma2 q' src dst hsrc hdst) K) Q) := by
  have H := wait_step (F := F) I κ c (Q := Q) (K := K) (sD k b) (Nat.le_add_right _ _) (s_mem c k b) (src := src) (dst := dst) h hN (hsrc := hsrc) (hdst := hdst)
  rw [payload_s] at H
  exact H

/-- The whole of a context block is the three copies' shares and a rest that stays. -/
theorem shares (b : Fin 2) (w : S1x256x256.Idx → Elt F .bf16) :
    (slab (cV b) c fullShare w : sProp 𝕄)
      ⊣⊢ iprop((slab (cV b) c (shr 0) w ∗ slab (cV b) c (shr 1) w) ∗ slab (cV b) c (shr 2) w ∗ slab (cV b) c fullShare.right.right w) := by
  have e (q) : (slab (cV b) c q w : sProp 𝕄) = iprop(slab (cV b) c q.left w ∗ slab (cV b) c q.right w) :=
    BI.Entails.antisymm (slab_share (F := F) (cV b) c q w).1 (slab_share (F := F) (cV b) c q w).2
  rw [e fullShare, e fullShare.left, e fullShare.right]
  exact ⟨BI.Entails.refl _, BI.Entails.refl _⟩

end Steps

end Cert.KernelIdealRun

end
-- ==== Proof.KernelIdealBody.lean ====
/-
The kernel body on one device, from its start to its end: every effect in program order, the contents followed.
-/
module

public import proofs.«01_k».proof.Proof.KernelIdealSteps

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The loads of the staged operands -/

section Loads
variable (I : Ins F) (c : Dev nD)

/-- A staged operand, whole. -/
abbrev stg (b : Ref sig .tc) (f : b.ty.Contents (Elt F)) : sProp 𝕄 := (c : Thread nD τ).loc b ↦{fullShare} f

/-- The load of the activations, -/
theorem load_x {hl : xM.view.LoadsAt (Rect.unit (s := S512x512) ![0, 0] S512x512.size inb_S512x512_S512x512_0_0).toLoadRect} {α : Type} {Q : α → sProp 𝕄}
    {K : Vec F S512x512 .f32 → Prog (TpuEff nD τ sig (Elt F) Λ₀ .tc) α} :
    (stg c cc0_stg0_0 I.x) ⊢ iprop((stg c cc0_stg0_0 I.x -∗ wp frame (wpE (defs₀ (F := F)) 𝒱₀ (c : Thread nD τ) none) Set.univ (K (xB I)) Q)
      -∗ wp frame (wpE (defs₀ (F := F)) 𝒱₀ (c : Thread nD τ) none) Set.univ (.op (.load xM (Rect.unit (s := S512x512) ![0, 0] S512x512.size inb_S512x512_S512x512_0_0).toLoadRect hl) K) Q) :=
  wp_load 𝒱₀ (c : Thread nD τ) none Set.univ (m := xM) (Finset.subset_univ _)

/-- of the query projection, -/
theorem load_wq {hl : wM.view.LoadsAt (Rect.unit (s := S512x256) ![0, 0] S512x256.size inb_S512x256_S512x256_0_0).toLoadRect} {α : Type} {Q : α → sProp 𝕄}
    {K : Vec F S512x256 .f32 → Prog (TpuEff nD τ sig (Elt F) Λ₀ .tc) α} :
    (stg c cc0_stg1_0 I.wq) ⊢ iprop((stg c cc0_stg1_0 I.wq -∗ wp frame (wpE (defs₀ (F := F)) 𝒱₀ (c : Thread nD τ) none) Set.univ (K (wB I)) Q)
      -∗ wp frame (wpE (defs₀ (F := F)) 𝒱₀ (c : Thread nD τ) none) Set.univ (.op (.load wM (Rect.unit (s := S512x256) ![0, 0] S512x256.size inb_S512x256_S512x256_0_0).toLoadRect hl) K) Q) :=
  wp_load 𝒱₀ (c : Thread nD τ) none Set.univ (m := wM) (Finset.subset_univ _)

/-- of a head's keys, -/
theorem load_k (b : Fin 2) (h : Fin 4) {off : Fin 4 → ℕ} {inb : ∀ a, off a + S1x1x256x64.size a ≤ S2x4x256x64.size a} (e : off = ![b.val, h.val, 0, 0])
    {hl : kM.view.LoadsAt (Rect.unit (s := S2x4x256x64) off S1x1x256x64.size inb).toLoadRect} {α : Type} {Q : α → sProp 𝕄}
    {K : Vec F S1x1x256x64 .f32 → Prog (TpuEff nD τ sig (Elt F) Λ₀ .tc) α} :
    (stg c cc0_stg2_0 I.k) ⊢ iprop((stg c cc0_stg2_0 I.k -∗ wp frame (wpE (defs₀ (F := F)) 𝒱₀ (c : Thread nD τ) none) Set.univ (K (kB I b h)) Q)
      -∗ wp frame (wpE (defs₀ (F := F)) 𝒱₀ (c : Thread nD τ) none) Set.univ (.op (.load kM (Rect.unit (s := S2x4x256x64) off S1x1x256x64.size inb).toLoadRect hl) K) Q) := by
  subst e
  exact wp_load 𝒱₀ (c : Thread nD τ) none Set.univ (m := kM) (Finset.subset_univ _)

/-- of a head's values, -/
theorem load_v (b : Fin 2) (h : Fin 4) {off : Fin 4 → ℕ} {inb : ∀ a, off a + S1x1x256x64.size a ≤ S2x4x256x64.size a} (e : off = ![b.val, h.val, 0, 0])
    {hl : vM.view.LoadsAt (Rect.unit (s := S2x4x256x64) off S1x1x256x64.size inb).toLoadRect} {α : Type} {Q : α → sProp 𝕄}
    {K : Vec F S1x1x256x64 .f32 → Prog (TpuEff nD τ sig (Elt F) Λ₀ .tc) α} :
    (stg c cc0_stg3_0 I.v) ⊢ iprop((stg c cc0_stg3_0 I.v -∗ wp frame (wpE (defs₀ (F := F)) 𝒱₀ (c : Thread nD τ) none) Set.univ (K (vB I b h)) Q)
      -∗ wp frame (wpE (defs₀ (F := F)) 𝒱₀ (c : Thread nD τ) none) Set.univ (.op (.load vM (Rect.unit (s := S2x4x256x64) off S1x1x256x64.size inb).toLoadRect hl) K) Q) := by
  subst e
  exact wp_load 𝒱₀ (c : Thread nD τ) none Set.univ (m := vM) (Finset.subset_univ _)

/-- of the output projection's rows for the own context, -/
theorem load_woO {hl : pM.view.LoadsAt (Rect.unit (s := S1024x512) (k0_off1 c) S256x512.size (k0_off1_inb c)).toLoadRect} {α : Type} {Q : α → sProp 𝕄}
    {K : Vec F S256x512 .f32 → Prog (TpuEff nD τ sig (Elt F) Λ₀ .tc) α} :
    (stg c cc0_stg4_0 I.wo) ⊢ iprop((stg c cc0_stg4_0 I.wo -∗ wp frame (wpE (defs₀ (F := F)) 𝒱₀ (c : Thread nD τ) none) Set.univ (K (woO I c)) Q)
      -∗ wp frame (wpE (defs₀ (F := F)) 𝒱₀ (c : Thread nD τ) none) Set.univ (.op (.load pM (Rect.unit (s := S1024x512) (k0_off1 c) S256x512.size (k0_off1_inb c)).toLoadRect hl) K) Q) :=
  wp_load 𝒱₀ (c : Thread nD τ) none Set.univ (m := pM) (Finset.subset_univ _)

/-- of its rows for the context in a slot: each at its name in the values. -/
theorem load_woK (r : Fin 3) {w : BitVec 32} (e : w = BitVec.ofNat 32 r.val) {inb : ∀ a, (k0_off2 c w) a + S256x512.size a ≤ S1024x512.size a}
    {hl : pM.view.LoadsAt (Rect.unit (s := S1024x512) (k0_off2 c w) S256x512.size inb).toLoadRect} {α : Type} {Q : α → sProp 𝕄}
    {K : Vec F S256x512 .f32 → Prog (TpuEff nD τ sig (Elt F) Λ₀ .tc) α} :
    (stg c cc0_stg4_0 I.wo) ⊢ iprop((stg c cc0_stg4_0 I.wo -∗ wp frame (wpE (defs₀ (F := F)) 𝒱₀ (c : Thread nD τ) none) Set.univ (K (woK I c r)) Q)
      -∗ wp frame (wpE (defs₀ (F := F)) 𝒱₀ (c : Thread nD τ) none) Set.univ (.op (.load pM (Rect.unit (s := S1024x512) (k0_off2 c w) S256x512.size inb).toLoadRect hl) K) Q) := by
  subst e
  exact wp_load 𝒱₀ (c : Thread nD τ) none Set.univ (m := pM) (Finset.subset_univ _)

end Loads

/-! ## The body -/

variable (I : Dev nD → Ins F) (κ : GSem nD τ sig → ℕ) (c : Dev nD)

/-- What belongs to copy `(k, b)` and to the slot of the same name. -/
def copyRes (k : Fin 3) (b : Fin 2) : sProp 𝕄 :=
  iprop(sendRes c k b ∗ recvRes c k b ∗ atPos ER (sCell c k b) 0 ∅ 0 ∗ reached ER (vCell c k b) 0)
/-- The two semaphores of `(k, b)`, at zero again. -/
def copySems (k : Fin 3) (b : Fin 2) : sProp 𝕄 := iprop(semVal (sCell c k b) 0 ∗ semVal (vCell c k b) 0)

/-- The staged operands. -/
def operands : sProp 𝕄 :=
  iprop(stg c cc0_stg0_0 (I c).x ∗ stg c cc0_stg1_0 (I c).wq ∗ stg c cc0_stg2_0 (I c).k ∗ stg c cc0_stg3_0 (I c).v ∗ stg c cc0_stg4_0 (I c).wo)

/-- The protocol's part of the start. -/
def protoPre : sProp 𝕄 :=
  iprop(records I κ ∗ levAts L lv ∗ (cred (tallyAt (barCell c) () 3) ∗ atPos ER (barCell c) 0 ∅ 0)
    ∗ (dutyTok ER (barCell (org c 0)) 0 0 ∗ dutyTok ER (barCell (org c 1)) 0 1 ∗ dutyTok ER (barCell (org c 2)) 0 2)
    ∗ (bigSep Finset.univ fun t : Fin 3 × Fin 2 => copyRes (F := F) c t.1 t.2))

/-- What the body starts from: the protocol's part, the debts, the scratch buffers, the staged operands and result. -/
def bodyPre : sProp 𝕄 :=
  iprop(protoPre I κ c ∗ owesAny c (O₀ c) ∗ (∃ f, stg c cc0_scratch0 f) ∗ (∃ f, stg c cc0_scratch1 f) ∗ operands I c ∗ (∃ f, stg c cc0_stg5_0 f))

/-- The output as the kernel leaves it. -/
def outBuf : (cc0_stg5_0 : Ref sig .tc).ty.Contents (Elt F) := glue cc0_stg5_0 rO blocksO.cover (outW I c)

/-- What the body ends with: counters at zero, no debts, the buffers back and the result's value. -/
def bodyPost : sProp 𝕄 :=
  iprop((semVal (barCell c) 0 ∗ (bigSep Finset.univ fun t : Fin 3 × Fin 2 => copySems (F := F) c t.1 t.2))
    ∗ owesAny c 0 ∗ (∃ f, stg c cc0_scratch0 f) ∗ (∃ f, stg c cc0_scratch1 f) ∗ operands I c ∗ stg c cc0_stg5_0 (outBuf I c))

set_option maxHeartbeats 4000000 in
/-- The body takes the one to the other. -/
theorem sound_body (Kt : PUnit → sProp 𝕄) :
    iprop(bodyPre I κ c ∗ (bodyPost I c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3) Kt := by
  rw [cc0_body_eq_skeleton]; unfold cc0_body_skel
  rw [k0_part1_eq_skeleton]; unfold k0_part1_skel
  simp only [semSignalWord, semWaitWord, Prog.lift, Prog.bind_op, Prog.bind_ret, Prog.pure_eq_ret, Prog.bind_assoc, wp_deviceId]
  unfold bodyPre protoPre operands
  simp only [bigSep_six]
  unfold copyRes
  iintro ⟨⟨⟨#HR, #Hl, ⟨HcB, HaB⟩, ⟨Ht0, Ht1, Ht2⟩, ⟨Hs00, Hv00, Ha00, #Hr00⟩, ⟨Hs01, Hv01, Ha01, #Hr01⟩, ⟨Hs10, Hv10, Ha10, #Hr10⟩, ⟨Hs11, Hv11, Ha11, #Hr11⟩,
      ⟨Hs20, Hv20, Ha20, #Hr20⟩, ⟨Hs21, Hv21, Ha21, #Hr21⟩⟩, HO, ⟨%fc, Hc⟩, ⟨%fr, Hr⟩, ⟨Hx, Hwq, Hk, Hv, Hwo⟩, ⟨%fo, Ho⟩⟩, HK⟩
  -- the scratch buffers and the output as blocks
  ihave Hc' := (Entails.of_eq ((slabs_split cc0_scratch0 rC blocksC c fullShare fc).trans (bigSep_two _))) $$ Hc
  icases Hc' with ⟨Hc0, Hc1⟩
  ihave Ho' := (Entails.of_eq ((slabs_split cc0_stg5_0 rO blocksO c fullShare fo).trans (bigSep_two _))) $$ Ho
  icases Ho' with ⟨Ho0, Ho1⟩
  ihave Hr' := (Entails.of_eq ((slabs_split cc0_scratch1 (fun t : Fin 3 × Fin 2 => rR t.1 t.2) blocksR c fullShare fr).trans (bigSep_six _))) $$ Hr
  icases Hr' with ⟨HS00, HS01, HS10, HS11, HS20, HS21⟩
  -- the three signals and the wait
  iapply (signal_step I κ c 0 (bPays c [1, 2] ++ vPays c sends) _ (Fin.ext (k0_dev1_eq c)) rfl rfl) $$ [HO Ht0 HS00 HS01]
  · isplitr; · iexact HR
    isplitl [HO]; · iexact HO
    isplitl [Ht0]; · iexact Ht0
    isplitl [HS00]
    · isplitl [HS00]; · unfold slotAny; iexists _; iexact HS00
      iexact Hr00
    · isplitl [HS01]; · unfold slotAny; iexists _; iexact HS01
      iexact Hr01
  iintro HO
  iapply (signal_step I κ c 1 (bPays c [2] ++ vPays c sends) _ (Fin.ext (k0_dev2_eq c)) rfl rfl) $$ [HO Ht1 HS10 HS11]
  · isplitr; · iexact HR
    isplitl [HO]; · iexact HO
    isplitl [Ht1]; · iexact Ht1
    isplitl [HS10]
    · isplitl [HS10]; · unfold slotAny; iexists _; iexact HS10
      iexact Hr10
    · isplitl [HS11]; · unfold slotAny; iexists _; iexact HS11
      iexact Hr11
  iintro HO
  iapply (signal_step I κ c 2 (vPays c sends) _ (Fin.ext (k0_dev3_eq c)) rfl rfl) $$ [HO Ht2 HS20 HS21]
  · isplitr; · iexact HR
    isplitl [HO]; · iexact HO
    isplitl [Ht2]; · iexact Ht2
    isplitl [HS20]
    · isplitl [HS20]; · unfold slotAny; iexists _; iexact HS20
      iexact Hr20
    · isplitl [HS21]; · unfold slotAny; iexists _; iexact HS21
      iexact Hr21
  iintro HO
  iapply (barrier_step I κ c rfl rfl) $$ [HcB HO HaB]
  · isplitr; · iexact HR
    isplitr; · iexact Hl
    isplitl [HcB]; · iexact HcB
    isplitl [HO]; · iexact HO
    iexact HaB
  unfold barPay
  iintro ⟨HO, HzB, ⟨HD00, HD01⟩, ⟨HD10, HD11⟩, ⟨HD20, HD21⟩⟩
  -- the projection's operands
  iapply (load_x (I c) c) $$ Hx; iintro Hx
  iapply (load_wq (I c) c) $$ Hwq; iintro Hwq
  -- the attention of batch 0 and its copies
  rw [k0_part2_eq_skeleton]; unfold k0_part2_skel
  simp only [Prog.lift, Prog.bind_op, Prog.bind_ret, Prog.pure_eq_ret, Prog.bind_assoc]
  rw [k0_part3_eq_skeleton]; unfold k0_part3_skel
  simp only [Prog.lift, Prog.bind_op, Prog.bind_ret, Prog.pure_eq_ret, Prog.bind_assoc]
  iapply (load_k (I c) c 0 0 rfl) $$ Hk; iintro Hk
  iapply (load_v (I c) c 0 0 rfl) $$ Hv; iintro Hv
  iapply (load_k (I c) c 0 1 rfl) $$ Hk; iintro Hk
  rw [k0_part4_eq_skeleton]; unfold k0_part4_skel
  simp only [Prog.lift, Prog.bind_op, Prog.bind_ret, Prog.pure_eq_ret, Prog.bind_assoc]
  iapply (load_v (I c) c 0 1 rfl) $$ Hv; iintro Hv
  iapply (load_k (I c) c 0 2 rfl) $$ Hk; iintro Hk
  iapply (load_v (I c) c 0 2 rfl) $$ Hv; iintro Hv
  iapply (load_k (I c) c 0 3 rfl) $$ Hk; iintro Hk
  rw [k0_part5_eq_skeleton]; unfold k0_part5_skel
  simp only [Prog.lift, Prog.bind_op, Prog.bind_ret, Prog.pure_eq_ret, Prog.bind_assoc]
  iapply (load_v (I c) c 0 3 rfl) $$ Hv; iintro Hv
  iapply (load_slab cM rfl c _ _) $$ Hc0; iintro Hc0
  iapply (store_slab cM rfl c _) $$ Hc0; iintro Hc0
  rw [show k0_pay17 _ _ _ _ _ _ _ = ctxW (I c) 0 from rfl]
  ihave HW := (shares c 0 (ctxW (I c) 0)).1 $$ Hc0
  icases HW with ⟨⟨HW00, HW10⟩, HW20, Hc0⟩
  iapply (send_step I κ c 2 0 (vPays c [(1, 0), (0, 0), (2, 1), (1, 1), (0, 1)]) _ (Fin.ext (k0_dev4_eq c)) rfl rfl rfl rfl) $$ [HO HW20 HD20 Hs20]
  · isplitr; · iexact HR
    isplitl [HO]; · iexact HO
    isplitl [HW20]; · iexact HW20
    isplitl [HD20]; · iexact HD20
    iexact Hs20
  iintro ⟨HO, HcS20⟩
  rw [k0_part6_eq_skeleton]; unfold k0_part6_skel
  simp only [Prog.lift, Prog.bind_op, Prog.bind_ret, Prog.pure_eq_ret, Prog.bind_assoc]
  iapply (send_step I κ c 1 0 (vPays c [(0, 0), (2, 1), (1, 1), (0, 1)]) _ (Fin.ext (k0_dev5_eq c)) rfl rfl rfl rfl) $$ [HO HW10 HD10 Hs10]
  · isplitr; · iexact HR
    isplitl [HO]; · iexact HO
    isplitl [HW10]; · iexact HW10
    isplitl [HD10]; · iexact HD10
    iexact Hs10
  iintro ⟨HO, HcS10⟩
  iapply (send_step I κ c 0 0 (vPays c [(2, 1), (1, 1), (0, 1)]) _ (Fin.ext (k0_dev6_eq c)) rfl rfl rfl rfl) $$ [HO HW00 HD00 Hs00]
  · isplitr; · iexact HR
    isplitl [HO]; · iexact HO
    isplitl [HW00]; · iexact HW00
    isplitl [HD00]; · iexact HD00
    iexact Hs00
  iintro ⟨HO, HcS00⟩
  -- the attention of batch 1 and its copies
  rw [k0_part7_eq_skeleton]; unfold k0_part7_skel
  simp only [Prog.lift, Prog.bind_op, Prog.bind_ret, Prog.pure_eq_ret, Prog.bind_assoc]
  iapply (load_k (I c) c 1 0 rfl) $$ Hk; iintro Hk
  iapply (load_v (I c) c 1 0 rfl) $$ Hv; iintro Hv
  iapply (load_k (I c) c 1 1 rfl) $$ Hk; iintro Hk
  rw [k0_part8_eq_skeleton]; unfold k0_part8_skel
  simp only [Prog.lift, Prog.bind_op, Prog.bind_ret, Prog.pure_eq_ret, Prog.bind_assoc]
  iapply (load_v (I c) c 1 1 rfl) $$ Hv; iintro Hv
  iapply (load_k (I c) c 1 2 rfl) $$ Hk; iintro Hk
  iapply (load_v (I c) c 1 2 rfl) $$ Hv; iintro Hv
  iapply (load_k (I c) c 1 3 rfl) $$ Hk; iintro Hk
  rw [k0_part9_eq_skeleton]; unfold k0_part9_skel
  simp only [Prog.lift, Prog.bind_op, Prog.bind_ret, Prog.pure_eq_ret, Prog.bind_assoc]
  iapply (load_v (I c) c 1 3 rfl) $$ Hv; iintro Hv
  iapply (load_slab cM rfl c _ _) $$ Hc1; iintro Hc1
  iapply (store_slab cM rfl c _) $$ Hc1; iintro Hc1
  rw [show k0_pay24 _ _ _ _ _ = ctxW (I c) 1 from rfl]
  ihave HW := (shares c 1 (ctxW (I c) 1)).1 $$ Hc1
  icases HW with ⟨⟨HW01, HW11⟩, HW21, Hc1⟩
  iapply (send_step I κ c 2 1 (vPays c [(1, 1), (0, 1)]) _ (Fin.ext (k0_dev7_eq c)) rfl rfl rfl rfl) $$ [HO HW21 HD21 Hs21]
  · isplitr; · iexact HR
    isplitl [HO]; · iexact HO
    isplitl [HW21]; · iexact HW21
    isplitl [HD21]; · iexact HD21
    iexact Hs21
  iintro ⟨HO, HcS21⟩
  rw [k0_part10_eq_skeleton]; unfold k0_part10_skel
  simp only [Prog.lift, Prog.bind_op, Prog.bind_ret, Prog.pure_eq_ret, Prog.bind_assoc]
  iapply (send_step I κ c 1 1 (vPays c [(0, 1)]) _ (Fin.ext (k0_dev8_eq c)) rfl rfl rfl rfl) $$ [HO HW11 HD11 Hs11]
  · isplitr; · iexact HR
    isplitl [HO]; · iexact HO
    isplitl [HW11]; · iexact HW11
    isplitl [HD11]; · iexact HD11
    iexact Hs11
  iintro ⟨HO, HcS11⟩
  iapply (send_step I κ c 0 1 (vPays c []) _ (Fin.ext (k0_dev9_eq c)) rfl rfl rfl rfl) $$ [HO HW01 HD01 Hs01]
  · isplitr; · iexact HR
    isplitl [HO]; · iexact HO
    isplitl [HW01]; · iexact HW01
    isplitl [HD01]; · iexact HD01
    iexact Hs01
  iintro ⟨HO, HcS01⟩
  -- the output from the own blocks
  iapply (load_woO (I c) c) $$ Hwo; iintro Hwo
  iapply (load_slab cM rfl c _ _) $$ Hc0; iintro Hc0
  rw [k0_part11_eq_skeleton]; unfold k0_part11_skel
  simp only [Prog.lift, Prog.bind_op, Prog.bind_ret, Prog.pure_eq_ret, Prog.bind_assoc]
  iapply (load_slab oM rfl c _ _) $$ Ho0; iintro Ho0
  iapply (store_slab oM rfl c _) $$ Ho0; iintro Ho0
  rw [show k0_pay27 _ = a0 I c from rfl]
  iapply (load_slab cM rfl c _ _) $$ Hc1; iintro Hc1
  iapply (load_slab oM rfl c _ _) $$ Ho1; iintro Ho1
  iapply (store_slab oM rfl c _) $$ Ho1; iintro Ho1
  rw [show k0_pay28 _ _ = b0 I c from rfl]
  -- the three landed blocks of each batch
  iapply (load_woK (I c) c 0 rfl) $$ Hwo; iintro Hwo
  iapply (recv_step I κ c 0 0 (src := cS 0) (dst := dS 0 0) rfl rfl) $$ [HO Hv00]
  · isplitr; · iexact HR
    isplitl [HO]; · iexact HO
    iexact Hv00
  iintro ⟨HO, Hzv00, HS00⟩
  rw [k0_part12_eq_skeleton]; unfold k0_part12_skel
  simp only [Prog.lift, Prog.bind_op, Prog.bind_ret, Prog.pure_eq_ret, Prog.bind_assoc]
  iapply (load_slab oM rfl c _ _) $$ Ho0; iintro Ho0
  iapply (load_slab rM rfl c _ _) $$ HS00; iintro HS00
  iapply (load_slab oM rfl c _ _) $$ Ho0; iintro Ho0
  iapply (store_slab oM rfl c _) $$ Ho0; iintro Ho0
  rw [show k0_pay30 _ _ _ = a1 I c from rfl]
  iapply (recv_step I κ c 0 1 (src := cS 1) (dst := dS 0 1) rfl rfl) $$ [HO Hv01]
  · isplitr; · iexact HR
    isplitl [HO]; · iexact HO
    iexact Hv01
  iintro ⟨HO, Hzv01, HS01⟩
  iapply (load_slab oM rfl c _ _) $$ Ho1; iintro Ho1
  iapply (load_slab rM rfl c _ _) $$ HS01; iintro HS01
  rw [k0_part13_eq_skeleton]; unfold k0_part13_skel
  simp only [Prog.lift, Prog.bind_op, Prog.bind_ret, Prog.pure_eq_ret, Prog.bind_assoc]
  iapply (load_slab oM rfl c _ _) $$ Ho1; iintro Ho1
  iapply (store_slab oM rfl c _) $$ Ho1; iintro Ho1
  rw [show k0_pay33 _ _ _ _ = b1 I c from rfl]
  iapply (load_woK (I c) c 2 rfl) $$ Hwo; iintro Hwo
  iapply (recv_step I κ c 2 0 (src := cS 0) (dst := dS 2 0) rfl rfl) $$ [HO Hv20]
  · isplitr; · iexact HR
    isplitl [HO]; · iexact HO
    iexact Hv20
  iintro ⟨HO, Hzv20, HS20⟩
  iapply (load_slab oM rfl c _ _) $$ Ho0; iintro Ho0
  iapply (load_slab rM rfl c _ _) $$ HS20; iintro HS20
  rw [k0_part14_eq_skeleton]; unfold k0_part14_skel
  simp only [Prog.lift, Prog.bind_op, Prog.bind_ret, Prog.pure_eq_ret, Prog.bind_assoc]
  iapply (load_slab oM rfl c _ _) $$ Ho0; iintro Ho0
  iapply (store_slab oM rfl c _) $$ Ho0; iintro Ho0
  rw [show k0_pay37 _ _ _ _ = a2 I c from rfl]
  iapply (recv_step I κ c 2 1 (src := cS 1) (dst := dS 2 1) rfl rfl) $$ [HO Hv21]
  · isplitr; · iexact HR
    isplitl [HO]; · iexact HO
    iexact Hv21
  iintro ⟨HO, Hzv21, HS21⟩
  iapply (load_slab oM rfl c _ _) $$ Ho1; iintro Ho1
  iapply (load_slab rM rfl c _ _) $$ HS21; iintro HS21
  iapply (load_slab oM rfl c _ _) $$ Ho1; iintro Ho1
  iapply (store_slab oM rfl c _) $$ Ho1; iintro Ho1
  rw [show k0_pay38 _ _ _ = b2 I c from rfl]
  rw [k0_part15_eq_skeleton]; unfold k0_part15_skel
  simp only [Prog.lift, Prog.bind_op, Prog.bind_ret, Prog.pure_eq_ret, Prog.bind_assoc]
  iapply (load_woK (I c) c 1 rfl) $$ Hwo; iintro Hwo
  iapply (recv_step I κ c 1 0 (src := cS 0) (dst := dS 1 0) rfl rfl) $$ [HO Hv10]
  · isplitr; · iexact HR
    isplitl [HO]; · iexact HO
    iexact Hv10
  iintro ⟨HO, Hzv10, HS10⟩
  iapply (load_slab oM rfl c _ _) $$ Ho0; iintro Ho0
  iapply (load_slab rM rfl c _ _) $$ HS10; iintro HS10
  iapply (load_slab oM rfl c _ _) $$ Ho0; iintro Ho0
  iapply (store_slab oM rfl c _) $$ Ho0; iintro Ho0
  rw [show k0_pay40 _ _ _ = outW I c 0 from rfl]
  rw [k0_part16_eq_skeleton]; unfold k0_part16_skel
  simp only [Prog.lift, Prog.bind_op, Prog.bind_ret, Prog.pure_eq_ret, Prog.bind_assoc]
  iapply (recv_step I κ c 1 1 (src := cS 1) (dst := dS 1 1) rfl rfl) $$ [HO Hv11]
  · isplitr; · iexact HR
    isplitl [HO]; · iexact HO
    iexact Hv11
  iintro ⟨HO, Hzv11, HS11⟩
  iapply (load_slab oM rfl c _ _) $$ Ho1; iintro Ho1
  iapply (load_slab rM rfl c _ _) $$ HS11; iintro HS11
  iapply (load_slab oM rfl c _ _) $$ Ho1; iintro Ho1
  iapply (store_slab oM rfl c _) $$ Ho1; iintro Ho1
  rw [show k0_pay41 _ _ _ = outW I c 1 from rfl]
  -- the source shares back
  rw [k0_part17_eq_skeleton]; unfold k0_part17_skel
  simp only [Prog.lift, Prog.bind_op, Prog.bind_ret, Prog.pure_eq_ret, Prog.bind_assoc]
  iapply (sent_step I κ c 0 0 (src := dS 0 0) (dst := cS 0) rfl rfl) $$ [HO HcS00 Ha00]
  · isplitr; · iexact HR
    isplitl [HO]; · iexact HO
    isplitl [HcS00]; · iexact HcS00
    iexact Ha00
  iintro ⟨HO, Hzs00, HW00⟩
  iapply (sent_step I κ c 0 1 (src := dS 0 1) (dst := cS 1) rfl rfl) $$ [HO HcS01 Ha01]
  · isplitr; · iexact HR
    isplitl [HO]; · iexact HO
    isplitl [HcS01]; · iexact HcS01
    iexact Ha01
  iintro ⟨HO, Hzs01, HW01⟩
  iapply (sent_step I κ c 1 0 (src := dS 1 0) (dst := cS 0) rfl rfl) $$ [HO HcS10 Ha10]
  · isplitr; · iexact HR
    isplitl [HO]; · iexact HO
    isplitl [HcS10]; · iexact HcS10
    iexact Ha10
  iintro ⟨HO, Hzs10, HW10⟩
  rw [k0_part18_eq_skeleton]; unfold k0_part18_skel
  simp only [Prog.lift, Prog.bind_op, Prog.bind_ret, Prog.pure_eq_ret, Prog.bind_assoc]
  iapply (sent_step I κ c 1 1 (src := dS 1 1) (dst := cS 1) rfl rfl) $$ [HO HcS11 Ha11]
  · isplitr; · iexact HR
    isplitl [HO]; · iexact HO
    isplitl [HcS11]; · iexact HcS11
    iexact Ha11
  iintro ⟨HO, Hzs11, HW11⟩
  iapply (sent_step I κ c 2 0 (src := dS 2 0) (dst := cS 0) rfl rfl) $$ [HO HcS20 Ha20]
  · isplitr; · iexact HR
    isplitl [HO]; · iexact HO
    isplitl [HcS20]; · iexact HcS20
    iexact Ha20
  iintro ⟨HO, Hzs20, HW20⟩
  iapply (sent_step I κ c 2 1 (src := dS 2 1) (dst := cS 1) rfl rfl) $$ [HO HcS21 Ha21]
  · isplitr; · iexact HR
    isplitl [HO]; · iexact HO
    isplitl [HcS21]; · iexact HcS21
    iexact Ha21
  iintro ⟨HO, Hzs21, HW21⟩
  rw [wp_ret]; imodintro
  iapply HK
  ihave Hc0 := (shares c 0 (ctxW (I c) 0)).2 $$ [HW00 HW10 HW20 Hc0]
  · isplitl [HW00 HW10]
    · isplitl [HW00] <;> iassumption
    isplitl [HW20] <;> iassumption
  ihave Hc1 := (shares c 1 (ctxW (I c) 1)).2 $$ [HW01 HW11 HW21 Hc1]
  · isplitl [HW01 HW11]
    · isplitl [HW01] <;> iassumption
    isplitl [HW21] <;> iassumption
  unfold bodyPost operands
  simp only [bigSep_six]
  unfold copySems
  isplitl [HzB Hzs00 Hzs01 Hzs10 Hzs11 Hzs20 Hzs21 Hzv00 Hzv01 Hzv10 Hzv11 Hzv20 Hzv21]
  · isplitl [HzB]; · iexact HzB
    isplitl [Hzs00 Hzv00]; · isplitl [Hzs00] <;> iassumption
    isplitl [Hzs01 Hzv01]; · isplitl [Hzs01] <;> iassumption
    isplitl [Hzs10 Hzv10]; · isplitl [Hzs10] <;> iassumption
    isplitl [Hzs11 Hzv11]; · isplitl [Hzs11] <;> iassumption
    isplitl [Hzs20 Hzv20]; · isplitl [Hzs20] <;> iassumption
    isplitl [Hzs21] <;> iassumption
  isplitl [HO]; · iexact HO
  isplitl [Hc0 Hc1]
  · iexists _
    iapply (Entails.of_eq ((bigSep_two (fun b => slab (cV b) c fullShare (ctxW (I c) b))).symm.trans (slabs_join cc0_scratch0 rC blocksC c fullShare (ctxW (I c)))))
    isplitl [Hc0] <;> iassumption
  isplitl [HS00 HS01 HS10 HS11 HS20 HS21]
  · iexists _
    iapply (Entails.of_eq ((bigSep_six (fun t => slab (rV t.1 t.2) c fullShare (landed I c t.1 t.2))).symm.trans
      (slabs_join cc0_scratch1 (fun t : Fin 3 × Fin 2 => rR t.1 t.2) blocksR c fullShare (fun t => landed I c t.1 t.2))))
    isplitl [HS00]; · iexact HS00
    isplitl [HS01]; · iexact HS01
    isplitl [HS10]; · iexact HS10
    isplitl [HS11]; · iexact HS11
    isplitl [HS20] <;> iassumption
  isplitl [Hx Hwq Hk Hv Hwo]
  · isplitl [Hx]; · iexact Hx
    isplitl [Hwq]; · iexact Hwq
    isplitl [Hk]; · iexact Hk
    isplitl [Hv] <;> iassumption
  unfold outBuf
  iapply (Entails.of_eq ((bigSep_two (fun b => slab (oV b) c fullShare (outW I c b))).symm.trans (slabs_join cc0_stg5_0 rO blocksO c fullShare (outW I c))))
  isplitl [Ho0] <;> iassumption

end Cert.KernelIdealRun

end
-- ==== Proof.KernelIdealRegion.lean ====
/-
The kernel's region of @main: what the pipeline stages, the body's obligation, and the region entered from the
protocol's launch state and left with the result at the kernel's value.
-/
module

public import proofs.«01_k».proof.Proof.KernelIdealBody
public import proofs.«01_k».proof.Proof.Gen.KernelIdeal.Regions
public import proofs.«01_k».proof.Proof.Gen.KernelIdeal.Points
public import Idealize.ShloMosaic.Lib.Pipeline.RegionTalk
public import Idealize.ShloMosaic.Lib.Pipeline.ValueKit.Geometry
public import Idealize.ShloMosaic.Lib.Pipeline.FrameBody

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## What the pipeline stages -/

section Staged
variable (m : (ℓ : Loc nD τ sig) → Buf (Elt F) ℓ)

/-- Device `c`'s operands: its arrays at the region's entry. -/
def ins (c : Dev nD) : Ins F where
  x := V1 m c main_v10
  wq := V1 m c main_v9
  k := V1 m c main_v11
  v := V1 m c main_v12
  wo := V1 m c main_arg4

/-- What the region leaves in the result. -/
@[irreducible] def outArr (c : Dev nD) : (main_v13 : Ref sig .tc).ty.Contents (Elt F) := outBuf (ins m) c

/-- The contents that the region leaves, as the thread states take them. -/
def outs : Outs (F := F) := fun _ r c => if h : r = main_v13 then by subst h; exact outArr m c else V1 m c r
/-- In the result the region leaves `outArr`. -/
theorem outs_v13 (c : Dev nD) : outs m 2 main_v13 c = outArr m c := by unfold outs; exact dif_pos rfl

/-- The state between the region's two ends, the protocol's part open: its ghost state before the body, its counters after it. -/
def Xk (c : Dev nD) : sProp 𝕄 := iprop(∃ κ, protoPre (ins m) κ c)
/-- The two scratch buffers, at whatever they hold. -/
def scratches (c : Dev nD) : sProp 𝕄 := iprop((∃ f, stg (F := F) c cc0_scratch0 f) ∗ (∃ f, stg (F := F) c cc0_scratch1 f))
/-- The copies' counters, all at zero. -/
def ownSems (c : Dev nD) : sProp 𝕄 := bigSep Finset.univ fun t : Fin 3 × Fin 2 => copySems (F := F) c t.1 t.2

/-- The pipeline's data: each window's array, what its staging holds after the body, the state between and the debts. -/
def dats (_ : Fin 1) (c : Dev nD) : Dat τ (Elt F) Unit ℕ UU ℕ cfg0 c where
  A w := match w with
    | ⟨0, _⟩ => V1 m c main_v10
    | ⟨1, _⟩ => V1 m c main_v9
    | ⟨2, _⟩ => V1 m c main_v11
    | ⟨3, _⟩ => V1 m c main_v12
    | ⟨4, _⟩ => V1 m c main_arg4
    | ⟨5, _⟩ => V1 m c main_v13
  after w _ := match w with
    | ⟨0, _⟩ => (ins m c).x
    | ⟨1, _⟩ => (ins m c).wq
    | ⟨2, _⟩ => (ins m c).k
    | ⟨3, _⟩ => (ins m c).v
    | ⟨4, _⟩ => (ins m c).wo
    | ⟨5, _⟩ => outArr m c
  Φ t := match t with
    | ⟨0, _⟩ => iprop(Xk m c ∗ scratches c ∗ ∃ r, prngReg c r)
    | ⟨_ + 1, _⟩ => iprop((semVal (barCell c) 0 ∗ ownSems c) ∗ scratches c ∗ ∃ r, prngReg c r)
  q _ := fullShare
  owed t := match t with
    | ⟨0, _⟩ => O₀ c
    | ⟨_ + 1, _⟩ => 0

omit [FloatOps F] in
/-- Holding a whole buffer at a value is holding its cells at it. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! A window whose block is its array stages the array as it is. -/

/-- The body finds the activations, -/
theorem before_0 (c : Dev nD) (d) : (dats m 0 c).before (0 : Fin 6) t0_0 d = (ins m c).x := by
  unfold Dat.before; rw [if_pos (fetch0_0 t0_0)]
  funext y
  show V1 m c main_v10 ((win0_0.rect t0_0).emb y) = V1 m c main_v10 y
  congr 1; funext a; apply Fin.ext
  rw [Pipeline.Window.rect_emb_val_of_index_zero _ _ _ rfl]
/-- the query projection, -/
theorem before_1 (c : Dev nD) (d) : (dats m 0 c).before (1 : Fin 6) t0_0 d = (ins m c).wq := by
  unfold Dat.before; rw [if_pos (fetch0_1 t0_0)]
  funext y
  show V1 m c main_v9 ((win0_1.rect t0_0).emb y) = V1 m c main_v9 y
  congr 1; funext a; apply Fin.ext
  rw [Pipeline.Window.rect_emb_val_of_index_zero _ _ _ rfl]
/-- the keys, -/
theorem before_2 (c : Dev nD) (d) : (dats m 0 c).before (2 : Fin 6) t0_0 d = (ins m c).k := by
  unfold Dat.before; rw [if_pos (fetch0_2 t0_0)]
  funext y
  show V1 m c main_v11 ((win0_2.rect t0_0).emb y) = V1 m c main_v11 y
  congr 1; funext a; apply Fin.ext
  rw [Pipeline.Window.rect_emb_val_of_index_zero _ _ _ rfl]
/-- the values, -/
theorem before_3 (c : Dev nD) (d) : (dats m 0 c).before (3 : Fin 6) t0_0 d = (ins m c).v := by
  unfold Dat.before; rw [if_pos (fetch0_3 t0_0)]
  funext y
  show V1 m c main_v12 ((win0_3.rect t0_0).emb y) = V1 m c main_v12 y
  congr 1; funext a; apply Fin.ext
  rw [Pipeline.Window.rect_emb_val_of_index_zero _ _ _ rfl]
/-- the output projection. -/
theorem before_4 (c : Dev nD) (d) : (dats m 0 c).before (4 : Fin 6) t0_0 d = (ins m c).wo := by
  unfold Dat.before; rw [if_pos (fetch0_4 t0_0)]
  funext y
  show V1 m c main_arg4 ((win0_4.rect t0_0).emb y) = V1 m c main_arg4 y
  congr 1; funext a; apply Fin.ext
  rw [Pipeline.Window.rect_emb_val_of_index_zero _ _ _ rfl]

/-! ## The body's obligation -/

/-- The debts as the body states them are those that the pipeline states, -/
theorem owesAt_to (c : Dev nD) (t : Fin (cfg0.N + 1)) (O : CellTallies nD τ sig Unit) (h : (dats m 0 c).owed t = O) :
    owesAny c O ⊢ ((dats m 0 c).owesAt () t : sProp 𝕄) := by
  unfold owesAny Dat.owesAt Pipeline.owesWithin; rw [h]
  iintro ⟨%W, HO⟩; iexists W; isplitr; · ipureintro; exact fun _ _ => Or.inl trivial
  iexact HO
/-- and the other way round. -/
theorem owesAt_from (c : Dev nD) (t : Fin (cfg0.N + 1)) (O : CellTallies nD τ sig Unit) (h : (dats m 0 c).owed t = O) :
    ((dats m 0 c).owesAt () t : sProp 𝕄) ⊢ owesAny c O := by
  unfold owesAny Dat.owesAt Pipeline.owesWithin; rw [h]
  iintro ⟨%W, -, HO⟩; iexists W; iexact HO

/-- A whole staged buffer at contents equal to `X`. -/
abbrev stgAt (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))
/-- A staged buffer at `X` is one at contents equal to `X`. -/
theorem stgAt_intro (c : Dev nD) (b : Ref sig .tc) (X : b.ty.Contents (Elt F)) : stg c b X ⊢ stgAt c b X := by
  iintro H; iexists X; isplitr; · (ipureintro; rfl)
  iexact H

/-- What the pipeline gives the body at its one point, -/
def ptPre (c : Dev nD) : sProp 𝕄 :=
  iprop((Xk m c ∗ scratches c ∗ ∃ r, prngReg c r) ∗ (dats m 0 c).owesAt () t0_0.castSucc
    ∗ (∃ d, stgAt c cc0_stg0_0 ((dats m 0 c).before (0 : Fin 6) t0_0 d)) ∗ (∃ d, stgAt c cc0_stg1_0 ((dats m 0 c).before (1 : Fin 6) t0_0 d))
    ∗ (∃ d, stgAt c cc0_stg2_0 ((dats m 0 c).before (2 : Fin 6) t0_0 d)) ∗ (∃ d, stgAt c cc0_stg3_0 ((dats m 0 c).before (3 : Fin 6) t0_0 d))
    ∗ (∃ d, stgAt c cc0_stg4_0 ((dats m 0 c).before (4 : Fin 6) t0_0 d)) ∗ (∃ d, stgAt c cc0_stg5_0 ((dats m 0 c).before (5 : Fin 6) t0_0 d)))
/-- and what it takes back. -/
def ptPost (c : Dev nD) : sProp 𝕄 :=
  iprop(((semVal (barCell c) 0 ∗ ownSems c) ∗ scratches c ∗ ∃ r, prngReg c r) ∗ (dats m 0 c).owesAt () t0_0.succ
    ∗ stgAt c cc0_stg0_0 (ins m c).x ∗ stgAt c cc0_stg1_0 (ins m c).wq ∗ stgAt c cc0_stg2_0 (ins m c).k ∗ stgAt c cc0_stg3_0 (ins m c).v
    ∗ stgAt c cc0_stg4_0 (ins m c).wo ∗ stgAt c cc0_stg5_0 (outArr m c))

/-- The body's start from what the pipeline gives. -/
theorem ptPre_body (c : Dev nD) : ptPre m c ⊢ iprop((∃ κ, bodyPre (ins m) κ c) ∗ ∃ r, prngReg c r) := by
  unfold ptPre Xk scratches bodyPre operands
  simp only [before_0, before_1, before_2, before_3, before_4]
  iintro ⟨⟨⟨%κ, Hp⟩, ⟨Hs0, Hs1⟩, Hr⟩, HO, ⟨%d0, %f0, %e0, H0⟩, ⟨%d1, %f1, %e1, H1⟩, ⟨%d2, %f2, %e2, H2⟩, ⟨%d3, %f3, %e3, H3⟩, ⟨%d4, %f4, %e4, H4⟩, ⟨%d5, %f5, -, H5⟩⟩
  subst e0 e1 e2 e3 e4
  isplitr [Hr]
  · iexists κ
    isplitl [Hp]; · iexact Hp
    isplitl [HO]; · iapply (owesAt_from m c t0_0.castSucc (O₀ c) rfl); iexact HO
    isplitl [Hs0]; · iexact Hs0
    isplitl [Hs1]; · iexact Hs1
    isplitr [H5]
    · isplitl [H0]; · iexact H0
      isplitl [H1]; · iexact H1
      isplitl [H2]; · iexact H2
      isplitl [H3]; · iexact H3
      iexact H4
    · iexists f5; iexact H5
  · iexact Hr

/-- What the pipeline takes back from the body's end. -/
theorem body_ptPost (c : Dev nD) : iprop(bodyPost (ins m) c ∗ ∃ r, prngReg c r) ⊢ ptPost m c := by
  unfold ptPost scratches bodyPost operands ownSems outArr
  iintro ⟨⟨⟨Hb, Hz⟩, HO, Hs0, Hs1, ⟨H0, H1, H2, H3, H4⟩, H5⟩, Hr⟩
  isplitl [Hb Hz Hs0 Hs1 Hr]
  · isplitl [Hb Hz]; · isplitl [Hb] <;> iassumption
    isplitl [Hs0 Hs1]; · isplitl [Hs0] <;> iassumption
    iexact Hr
  isplitl [HO]; · iapply (owesAt_to m c t0_0.succ 0 rfl); iexact HO
  isplitl [H0]; · iapply stgAt_intro; iexact H0
  isplitl [H1]; · iapply stgAt_intro; iexact H1
  isplitl [H2]; · iapply stgAt_intro; iexact H2
  isplitl [H3]; · iapply stgAt_intro; iexact H3
  isplitl [H4]; · iapply stgAt_intro; iexact H4
  iapply stgAt_intro; iexact H5

/-- The body, from what the pipeline gives to what it takes back. -/
theorem sound_pt (c : Dev nD) : ptPre m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_scratch0) (Memref.isWhole_whole _) (Memref.whole cc0_scratch1) (Memref.isWhole_whole _) cc0_scratch2 cc0_scratch3) (fun _ => ptPost m c) := by
  iintro H
  ihave H' := (ptPre_body m c) $$ H
  icases H' with ⟨⟨%κ, Hb⟩, Hr⟩
  iapply (sound_body (ins m) κ c fun _ => ptPost m c)
  isplitl [Hb]; · iexact Hb
  iintro Hq
  iapply (body_ptPost m c)
  isplitl [Hq] <;> iassumption

/-- The body that the pipeline runs at its point. -/
theorem row : (defs₀ (F := F)) .tc cfg0.body (cfg0.bodyArgs t0_0 (cfg0.slots t0_0)) =
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_scratch0) (Memref.isWhole_whole _) (Memref.whole cc0_scratch1) (Memref.isWhole_whole _) cc0_scratch2 cc0_scratch3) := by
  unfold defs₀; rw [Defs.onTc_tc]

set_option maxRecDepth 4000 in
/-- The kernel's body takes the staged operands to the staged result, the protocol run. -/
theorem body_obligation (c : Dev nD) : BodyObligation (dats (F := F) m 0 c) (defs₀ (F := F)) 𝒱₀ () Set.univ := fun t => by
  rw [fin_N0 t, row]
  refine triple_restated (sound_pt m c) rfl ?_ fun _ => ?_
  · rw [bigSep_W0]; simp only [owns_whole_eq]; exact .rfl
  · rw [bigSep_W0]; simp only [owns_whole_eq]; exact .rfl

/-! ## The region -/

/-- The valuation the region leaves. -/
abbrev VE (c : Dev nD) : Valuation τ sig (Elt F) := V2 m (outs m) c

/-- Every window has its array whole. -/
theorem share_eq (c : Dev nD) (w : Fin cfg0.W) : (dats m 0 c).share w = fullShare := by unfold Dat.share; split <;> rfl

/-- The windows' arrays at the region's entry -/
theorem hW (c : Dev nD) (w : Fin 6) : (dats m 0 c).arrAt w 0 = V1 m c (Proc.devRef .tc (Pipeline.arrRef spec0 w)) := by
  revert w
  exact fun | 0 => rfl | 1 => rfl | 2 => rfl | 3 => rfl | 4 => rfl | 5 => rfl | ⟨_ + 6, h⟩ => absurd h (Nat.not_lt.2 (Nat.le_add_left _ _))

/-- The result at its end is `outArr`. -/
theorem VE_arr (c : Dev nD) : VE m c main_v13 = outArr m c := by
  show Function.update (V1 m c) _ _ _ = _
  rw [Function.update_self, outs_v13]

/-- and at its end. -/
theorem hW' (c : Dev nD) (w : Fin 6) : (dats m 0 c).arrAt w cfg0.N = VE m c (Proc.devRef .tc (Pipeline.arrRef spec0 w)) := by
  revert w
  exact fun
    | 0 => ((dats m 0 c).arrAt_in 0 rfl _).trans (V2_of m (outs m) c main_v10 (by decide)).symm
    | 1 => ((dats m 0 c).arrAt_in 1 rfl _).trans (V2_of m (outs m) c main_v9 (by decide)).symm
    | 2 => ((dats m 0 c).arrAt_in 2 rfl _).trans (V2_of m (outs m) c main_v11 (by decide)).symm
    | 3 => ((dats m 0 c).arrAt_in 3 rfl _).trans (V2_of m (outs m) c main_v12 (by decide)).symm
    | 4 => ((dats m 0 c).arrAt_in 4 rfl _).trans (V2_of m (outs m) c main_arg4 (by decide)).symm
    | 5 => ((dats m 0 c).arrAt_eq_of_after_last 5 t0_0 (by decide +kernel) (outArr m c) fun j => rfl).trans (VE_arr m c).symm
    | ⟨_ + 6, h⟩ => absurd h (Nat.not_lt.2 (Nat.le_add_left _ _))

end Staged

end Cert.KernelIdealRun

end
-- ==== Proof.KernelIdealRun.lean ====
/-
The run of @main: the protocol's ghost state made at launch and dealt to the devices, the region entered with it, and
the final state read: the arguments unchanged, the result at the kernel's value, every semaphore at zero.
-/
module

public import proofs.«01_k».proof.Proof.KernelIdealRegion
public import Idealize.ShloMosaic.Lib.Quiescent

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Families over the copies -/

/-- The send and the receive semaphore of copy `(k, b)` among the kernel's own. -/
def sIx (t : Fin 3 × Fin 2) : Fin 12 := ⟨2 * t.1.val + t.2.val, by omega⟩
/-- The receive semaphore of copy `(k, b)` among the kernel's own. -/
def vIx (t : Fin 3 × Fin 2) : Fin 12 := ⟨6 + (2 * t.1.val + t.2.val), by omega⟩
/-- The send semaphores, injectively. -/
def sIxEmb : Fin 3 × Fin 2 ↪ Fin 12 := ⟨sIx, by decide⟩
/-- The receive semaphores, injectively. -/
def vIxEmb : Fin 3 × Fin 2 ↪ Fin 12 := ⟨vIx, by decide⟩

/-- The first six semaphores are the send ones, -/
theorem osem_s (t : Fin 3 × Fin 2) : osem (sIx t) = .dma (sD t.1 t.2) := rfl
/-- the last six the receive ones. -/
theorem osem_v (t : Fin 3 × Fin 2) : osem (vIx t) = .dma (vD t.1 t.2) :=
  congrArg SemLoc.dma (Fin.ext (by show 6 + (6 + _) = 12 + _; omega))

/-- A family over two disjoint sets, taken apart. -/
theorem split_union {ι : Type} [DecidableEq ι] {s t : Finset ι} (h : Disjoint s t) {Φ : ι → sProp 𝕄} :
    bigSep (s ∪ t) Φ = iprop(bigSep s Φ ∗ bigSep t Φ) := bigSep_union h

/-- A family over the kernel's own semaphores is one over the copies, two members each. -/
theorem twelve (c : Dev nD) (Φ : GSem nD τ sig → sProp 𝕄) :
    (bigSep Finset.univ fun j : Fin 12 => Φ ((c : Thread nD τ), osem j))
      = bigSep Finset.univ fun t : Fin 3 × Fin 2 => iprop(Φ (sCell c t.1 t.2) ∗ Φ (vCell c t.1 t.2)) := by
  rw [show (Finset.univ : Finset (Fin 12)) = Finset.univ.map sIxEmb ∪ Finset.univ.map vIxEmb from by decide,
    split_union (by decide), bigSep_map, bigSep_map, bigSep_sep']
  congr 1

/-- A family over the devices and an index, each index's members handed round the devices. -/
theorem around {ι : Type} [Fintype ι] (e : ι → Dev nD ≃ Dev nD) (Φ : ι → Dev nD → sProp 𝕄) :
    (bigSep Finset.univ fun c : Dev nD => bigSep Finset.univ fun i : ι => Φ i c)
      = bigSep Finset.univ fun c : Dev nD => bigSep Finset.univ fun i : ι => Φ i (e i c) := by
  have swap (Ψ : ι → Dev nD → sProp 𝕄) : (bigSep Finset.univ fun c : Dev nD => bigSep Finset.univ fun i : ι => Ψ i c)
      = bigSep Finset.univ fun i : ι => bigSep Finset.univ fun c : Dev nD => Ψ i c := by
    rw [← bigSep_univ_prod (Φ := fun p : Dev nD × ι => Ψ p.2 p.1), bigSep_univ_equiv (Equiv.prodComm ι (Dev nD)), bigSep_univ_prod]
    rfl
  rw [swap, swap fun i c => Φ i (e i c)]
  exact bigSep_congr fun i _ => bigSep_univ_equiv (e i) (Φ i)

/-- Two families over one index are one family of pairs. -/
theorem pairUp {ι : Type} [Fintype ι] {Φ Ψ : ι → sProp 𝕄} :
    iprop(bigSep Finset.univ Φ ∗ bigSep Finset.univ Ψ) ⊢ bigSep Finset.univ fun i => iprop(Φ i ∗ Ψ i) :=
  Entails.of_eq (bigSep_sep' _ _ _).symm

/-- A family over three, member by member. -/
theorem three (Φ : Fin 3 → sProp 𝕄) : bigSep Finset.univ Φ = iprop(Φ 0 ∗ Φ 1 ∗ Φ 2) := by
  rw [bigSep_univ_eq_bigSepL [0, 1, 2] (by decide) (by decide), bigSepL_cons_cons, bigSepL_cons_cons, bigSepL_singleton]
  rfl

/-! ## The cells opened at the region's entry -/

section Opening
variable (I : Dev nD → Ins F) (κ : GSem nD τ sig → ℕ)

/-- The tokens that device `c` pays with, copy by copy. -/
def copyToks (c : Dev nD) (t : Fin 3 × Fin 2) : sProp 𝕄 :=
  iprop(dutyTok ER (sCell c t.1 t.2) 0 0 ∗ dutyTok ER (vCell (tgt c t.1) t.1 t.2) 0 0)
/-- The rights to open the two counters of a copy. -/
def copyOpen (c : Dev nD) (t : Fin 3 × Fin 2) : sProp 𝕄 := iprop(openTok ER (sCell c t.1 t.2) ∗ openTok ER (vCell c t.1 t.2))
/-- The credit for a copy's landing on device `c`. -/
def copyCred (c : Dev nD) (t : Fin 3 × Fin 2) : sProp 𝕄 := cred (tallyAt (vCell c t.1 t.2) () N)

/-- One copy's two cells opened, and all it takes assembled. -/
theorem open_copy (c : Dev nD) (t : Fin 3 × Fin 2) :
    iprop(records I κ ∗ ((copyOpen c t ∗ copySems c t.1 t.2) ∗ copyToks c t ∗ copyCred c t)) ⊢ (|={Set.univ}=> copyRes c t.1 t.2 : sProp 𝕄) := by
  unfold copyOpen copySems copyToks copyCred copyRes sendRes recvRes
  iintro ⟨#HR, ⟨⟨HoS, HoV⟩, HzS, HzV⟩, ⟨HtS, HtV⟩, Hc⟩
  imod (Rounds.cell_open ER (rd I) (g := sCell c t.1 t.2) (Set.mem_univ (κ (sCell c t.1 t.2)))) $$ [HoS HzS] with ⟨HaS, HrS⟩
  · isplitr; · iapply (inv_at I κ (s_mem c t.1 t.2)); iexact HR
    isplitl [HoS] <;> iassumption
  imod (Rounds.cell_open ER (rd I) (g := vCell c t.1 t.2) (Set.mem_univ (κ (vCell c t.1 t.2)))) $$ [HoV HzV] with ⟨HaV, HrV⟩
  · isplitr; · iapply (inv_at I κ (v_mem c t.1 t.2)); iexact HR
    isplitl [HoV] <;> iassumption
  imodintro
  isplitl [HtS HrS HtV]
  · isplitl [HtS]; · iexact HtS
    isplitl [HrS]; · iexact HrS
    iexact HtV
  isplitl [Hc HaV]
  · isplitl [Hc]; · iexact Hc
    iexact HaV
  isplitl [HaS]; · iexact HaS
  iexact HrV

/-- What stays with device `c` from launch: its barrier position, its rights to open, the tokens it pays with. -/
def linear (c : Dev nD) : sProp 𝕄 :=
  iprop(atPos ER (barCell c) 0 ∅ 0 ∗ bigSep Finset.univ (copyOpen (F := F) c)
    ∗ (bigSep Finset.univ fun k : Fin 3 => dutyTok ER (barCell (org c k)) 0 k) ∗ bigSep Finset.univ (copyToks (F := F) c))
/-- The credits it may wait for. -/
def credits (c : Dev nD) : sProp 𝕄 := iprop(cred (tallyAt (barCell c) () 3) ∗ bigSep Finset.univ (copyCred (F := F) c))

/-- What device `c` brings to the region. -/
def Tk (c : Dev nD) : sProp 𝕄 := iprop((∃ κ, records I κ ∗ linear c) ∗ credits c)

/-- The kernel's own semaphores at zero are the copies' counters at zero. -/
theorem ownSems_eq (c : Dev nD) : (Pipeline.ownSems0 osem c : sProp 𝕄) = ownSems c := twelve c fun g => semVal g 0

/-- At the entry all the cells are opened: the protocol's part of the body's start. -/
theorem open_all (c : Dev nD) : iprop(Tk I c ∗ Pipeline.ownSems0 osem c ∗ levAts L lv) ⊢ (|={Set.univ}=> ∃ κ, protoPre I κ c : sProp 𝕄) := by
  have hall (κ : GSem nD τ sig → ℕ) : iprop(records I κ ∗ bigSep Finset.univ fun t : Fin 3 × Fin 2 => iprop((copyOpen c t ∗ copySems c t.1 t.2) ∗ copyToks c t ∗ copyCred c t))
      ⊢ (|={Set.univ}=> bigSep Finset.univ fun t : Fin 3 × Fin 2 => copyRes c t.1 t.2 : sProp 𝕄) :=
    (bigSep_with_persistent fun t _ => open_copy I κ c t).trans (bigSep_fupd _ _)
  rw [ownSems_eq]
  unfold Tk linear credits protoPre ownSems
  rw [three]
  iintro ⟨⟨⟨%κ, #HR, HaB, Ho, HtB, Ht⟩, HcB, Hc⟩, Hz, #Hl⟩
  imod (hall κ) $$ [Ho Hz Ht Hc] with H
  · isplitr; · iexact HR
    iapply pairUp; isplitl [Ho Hz]
    · iapply pairUp; isplitl [Ho] <;> iassumption
    · iapply pairUp; isplitl [Ht] <;> iassumption
  imodintro
  iexists κ
  isplitr; · iexact HR
  isplitr; · iexact Hl
  isplitl [HcB HaB]; · isplitl [HcB] <;> iassumption
  isplitl [HtB]; · iexact HtB
  iexact H

end Opening

/-! ## The region's record -/

section Region
variable (m : (ℓ : Loc nD τ sig) → Buf (Elt F) ℓ)

/-- The barrier counter at zero. -/
abbrev Yk (c : Dev nD) : sProp 𝕄 := semVal (barCell c) 0

/-- The launch facts of the one call. -/
theorem kitP : Pipeline.PLaunchFacts (nD := nD) (τ := τ) (pcfgs (F := F)) 0 := launch0.toP

/-- No buffer held is nothing. -/
theorem held_none (c : Dev nD) (W : Valuation τ sig (Elt F)) : (StableHlo.held (c.tc : Thread nD τ) ∅ W : sProp 𝕄) = BI.emp := by
  unfold StableHlo.held; exact BI.bigSep_empty

/-- The state that the pipeline starts from, from what the entry gives, -/
theorem hin (c : Dev nD) : iprop(Pipeline.scopedRest spec0 c ∗ (∃ r, prngReg c r) ∗ StableHlo.held (c.tc : Thread nD τ) ∅ (V1 m c) ∗ Xk m c) ⊢ (dats m 0 c).Φ 0 := by
  rw [scopedRest0_eq, held_none]
  show _ ⊢ iprop(Xk m c ∗ scratches c ∗ ∃ r, prngReg c r)
  unfold scratches
  iintro ⟨Hs, Hp, -, HX⟩
  isplitl [HX]; · iexact HX
  isplitl [Hs]; · iexact Hs
  iexact Hp

/-- and what it ends with, given back. -/
theorem hout (c : Dev nD) : (dats m 0 c).Φ (Fin.last cfg0.N)
    ⊢ iprop(Pipeline.scopedRest spec0 c ∗ (∃ r, prngReg c r) ∗ StableHlo.held (c.tc : Thread nD τ) ∅ (VE m c) ∗ Pipeline.ownSems0 osem c ∗ Yk c) := by
  rw [scopedRest0_eq, held_none, ownSems_eq]
  show iprop((semVal (barCell c) 0 ∗ ownSems c) ∗ scratches c ∗ ∃ r, prngReg c r) ⊢ _
  unfold scratches
  iintro ⟨⟨Hb, Hz⟩, Hs, Hp⟩
  isplitl [Hs]; · iexact Hs
  isplitl [Hp]; · iexact Hp
  isplitr; · iempintro
  isplitl [Hz] <;> iassumption

/-- What is owed at the start is owed at a positive level. -/
theorem O₀_pos {c : Dev nD} {g : GSem nD τ sig} {u : Unit} (h : 0 < O₀ c g u) : u ∈ L g ∧ 0 < lv g u := by
  obtain ⟨p, hp, rfl⟩ := debt_pos h
  rcases List.mem_append.mp hp with hp | hp
  · obtain ⟨k, -, rfl⟩ := List.mem_map.mp hp
    exact ⟨by rw [L_tc]; exact Finset.mem_singleton_self _, Nat.one_pos⟩
  · obtain ⟨⟨d, s, e⟩, hl⟩ := vPays_lv c sends p hp
    exact ⟨by rw [e, L_tc]; exact Finset.mem_singleton_self _, Nat.lt_of_succ_lt hl⟩

/-- What is owed at any point is owed at a positive level, -/
theorem cutD (c : Dev nD) : ∀ (t : Fin (cfg0.N + 1)) (g : GSem nD τ sig) (u : Unit), 0 < (dats (F := F) m 0 c).owed t g u → u ∈ L g ∧ 0 < lv g u
  | ⟨0, _⟩, g, u, h => O₀_pos (c := c) h
  | ⟨_ + 1, _⟩, g, u, h => absurd h (Nat.lt_irrefl 0)

/-- and the staging waits are at level 0. -/
theorem stage_lv : ∀ (w : Fin 6) (s : Fin (spec0 w).nbuf), lvOf (.dma ((spec0 w).sem s)) = 0 := by decide

/-- The buffers that no window stages. -/
abbrev Sr : Finset (DevRef τ sig) := Pipeline.ucRefs τ sig \ Pipeline.arrRefs (τ := τ) spec0

set_option backward.isDefEq.respectTransparency.types false in
/-- The kernel's region. -/
def reg : Pipeline.RegionSeg (pcfgs (F := F)) adm (dats m) () defs₀ 𝒱₀ L lv 0 :=
  Pipeline.RegionSeg.ofTalk (pcfgs (F := F)) adm (dats m) () defs₀ 𝒱₀ L lv 0 osem (by decide : Pipeline.OwnSemFacts spec0 osem)
    ∅ Sr (Finset.empty_subset _) kitP rfl (fun c => (body_obligation m c).loose)
    (fun _ => 0) O₀ (fun c => (zero_add (O₀ c)).symm) (fun c => rfl) (fun _ => rfl) (share_eq m)
    (fun c => V1 m c) (VE m) (fun c b hb => by
      refine Function.update_of_ne (fun h => ?_) _ _
      rw [h] at hb
      exact absurd hb (by decide))
    (Tk (ins m)) Yk (Xk m) Yk (open_all (ins m)) (hin m) (hout m)
    (fun c => by iintro H; imodintro; iexact H)
    (fun _ => 0)
    ⟨fun c w s => by rw [L_tc]; exact Finset.mem_singleton_self _, fun c w s => (stage_lv w s).le, cutD m⟩
    (fun _ => iprop(emp)) (hW m) (hW' m)

/-- The windows' arrays are among the held buffers. -/
theorem arr_sub : Pipeline.arrRefs (τ := τ) spec0 ⊆ Pipeline.ucRefs τ sig := Pipeline.arrRefs_sub_ucRefs spec0 (by decide)

/-- What rides beside the buffers before the region and after it. -/
def rides : Fin 2 → Dev nD → sProp 𝕄
  | 0, c => iprop(Tk (ins m) c ∗ (∃ r, prngReg c r) ∗ ∃ Wd, owes (c : Thread nD τ) (O₀ c) Wd)
  | 1, c => iprop(Yk c ∗ ∃ Wd, owes (c : Thread nD τ) (0 : CellTallies nD τ sig Unit) Wd)

/-- The buffers and what rides beside them enter the region, -/
theorem reg_pre (c : Dev nD) : iprop(StableHlo.held (c : Thread nD τ) (Pipeline.ucRefs τ sig) (V1 m c) ∗ rides m 0 c) ⊢ (reg m).pre c := by
  show _ ⊢ iprop(StableHlo.held (c.tc : Thread nD τ) (Pipeline.arrRefs (τ := τ) spec0) (V1 m c) ∗ (∃ r, prngReg c r)
    ∗ (StableHlo.held (c.tc : Thread nD τ) Sr (V1 m c) ∗ emp) ∗ Tk (ins m) c ∗ ∃ Wd, owes (c : Thread nD τ) (0 + O₀ c) Wd)
  rw [StableHlo.held_sub_split _ arr_sub, zero_add]
  unfold rides
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

/-- and come out of it. -/
theorem reg_post (c : Dev nD) : (reg m).post c ⊢ iprop(StableHlo.held (c : Thread nD τ) (Pipeline.ucRefs τ sig) (VE m c) ∗ rides m 1 c) := by
  show iprop(StableHlo.held (c.tc : Thread nD τ) (Pipeline.arrRefs (τ := τ) spec0) (VE m c) ∗ (∃ r, prngReg c r)
    ∗ (StableHlo.held (c.tc : Thread nD τ) Sr (VE m c) ∗ emp) ∗ Yk c ∗ ∃ Wd, owes (c : Thread nD τ) (0 : CellTallies nD τ sig Unit) Wd) ⊢ _
  rw [StableHlo.held_sub_split _ arr_sub]
  unfold rides
  iintro ⟨Ha, -, ⟨Hr, -⟩, HY, HO⟩
  isplitl [Ha Hr]; · isplitl [Ha] <;> iassumption
  isplitl [HY] <;> iassumption

end Region

/-! ## The launch: the tokens, the credits, the cells -/

/-- A duty's token: its counter, its round, its number. -/
abbrev Tok : Type := GSem nD τ sig × ℕ × Fin 3

/-- The barrier duties' tokens. -/
def barTok : Dev nD × Fin 3 ↪ Tok := ⟨fun p => (barCell p.1, 0, p.2), fun _ _ h =>
  Prod.ext (congrArg (fun t : Tok => t.1.1.1) h) (congrArg (fun t : Tok => t.2.2) h)⟩
/-- The landings' tokens. -/
def scTok : Dev nD × Fin 12 ↪ Tok := ⟨fun p => (((p.1 : Thread nD τ), osem p.2), 0, 0), fun _ _ h =>
  Prod.ext (congrArg (fun t : Tok => t.1.1.1) h) (osem_inj (congrArg (fun t : Tok => t.1.2) h))⟩
/-- All the tokens. -/
def toks : Finset Tok := Finset.univ.map barTok ∪ Finset.univ.map scTok

/-- No copy's semaphore is the barrier. -/
theorem osem_ne_bar : ∀ j : Fin 12, osem j ≠ .reg barS := by decide

/-- The two kinds of tokens are apart, -/
theorem disjoint_toks : Disjoint (Finset.univ.map barTok : Finset Tok) (Finset.univ.map scTok) := by
  rw [Finset.disjoint_left]
  rintro g h₁ h₂
  obtain ⟨p, -, rfl⟩ := Finset.mem_map.mp h₁
  obtain ⟨q, -, h⟩ := Finset.mem_map.mp h₂
  exact osem_ne_bar q.2 (congrArg (fun t : Tok => t.1.2) h)

/-- the two kinds of counters too. -/
theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg (fun g : GSem nD τ sig => g.2) h)

/-- Every duty's token, dealt to the device that pays with it. -/
theorem toks_dealt : (bigSep toks fun x => (dutyTok ER x.1 x.2.1 x.2.2 : sProp 𝕄))
    ⊢ iprop((bigSep Finset.univ fun c : Dev nD => bigSep Finset.univ fun k : Fin 3 => dutyTok ER (barCell (org c k)) 0 k)
      ∗ bigSep Finset.univ fun c : Dev nD => bigSep Finset.univ (copyToks (F := F) c)) := by
  refine Entails.of_eq ?_
  unfold toks
  rw [split_union disjoint_toks, bigSep_map, bigSep_map, bigSep_univ_prod, bigSep_univ_prod]
  refine congrArg₂ (fun A B : sProp 𝕄 => iprop(A ∗ B)) ?_ ?_
  · exact around ring fun k c => dutyTok ER (barCell c) 0 k
  · rw [show (bigSep Finset.univ fun c : Dev nD => bigSep Finset.univ fun j : Fin 12 => (dutyTok ER (scTok (c, j)).1 (scTok (c, j)).2.1 (scTok (c, j)).2.2 : sProp 𝕄))
        = bigSep Finset.univ fun c : Dev nD => bigSep Finset.univ fun t : Fin 3 × Fin 2 => iprop(dutyTok ER (sCell c t.1 t.2) 0 0 ∗ dutyTok ER (vCell c t.1 t.2) 0 0)
        from bigSep_congr fun c _ => twelve c fun g => dutyTok ER g 0 0]
    unfold copyToks
    simp only [bigSep_sep']
    exact congrArg (fun B : sProp 𝕄 => iprop(_ ∗ B)) (around (fun t : Fin 3 × Fin 2 => (ring t.1).symm) fun t c => dutyTok ER (vCell c t.1 t.2) 0 0)

/-! ### The credits -/

/-- What a list of payments owes to a counter is the sum of its payments to it. -/
theorem debt_apply (l : List (GSem nD τ sig × ℕ)) (g : GSem nD τ sig) : debt l g () = (l.map fun p => if g = p.1 then p.2 else 0).sum := by
  induction l with
  | nil => rfl
  | cons p l ih => rw [debt, Pi.add_apply, Finsupp.add_apply, tallyAt_apply, ih, List.map_cons, List.sum_cons, Nat.add_comm]; simp only [and_true]

/-- Together the devices owe each barrier three signals -/
theorem owed_bar (c : Dev nD) : ∑ d : Dev nD, O₀ d (barCell c) () = 3 := by
  rw [Finset.sum_congr rfl fun d _ => debt_apply _ _]; revert c; decide +kernel
/-- and each receive counter one landing. -/
theorem owed_v (c : Dev nD) (t : Fin 3 × Fin 2) : ∑ d : Dev nD, O₀ d (vCell c t.1 t.2) () = N := by
  rw [Finset.sum_congr rfl fun d _ => debt_apply _ _]; revert c t; decide +kernel

/-- The launch's credit of a counter is what the devices owe it. -/
theorem launch_cell (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

/-- The receive semaphores among all. -/
def vEmb : Fin 3 × Fin 2 ↪ SemLoc sig := ⟨fun t => .dma (vD t.1 t.2), by decide⟩

/-- The launch's credits are the devices'. -/
theorem creds (c : Dev nD) : (Pipeline.launchCred O₀ c : sProp 𝕄) ⊢ credits c := by
  unfold Pipeline.launchCred credits
  rw [bigSep_univ_at _ (SemLoc.reg barS), launch_cell _ _ (owed_bar c)]
  refine sep_mono_right ?_
  rw [show bigSep Finset.univ (copyCred (F := F) c) = bigSep (Finset.univ.map vEmb) fun sm => (cred (tallyOn ((c : Thread nD τ), sm) (launchCredit (Pipeline.owing O₀) 0 ((c : Thread nD τ), sm))) : sProp 𝕄) from by
    rw [bigSep_map]; exact bigSep_congr fun t _ => congrArg cred (launch_cell _ _ (owed_v c t)).symm]
  exact bigSep_subset (by decide)

/-! ### The start -/

section Start
variable (m : (ℓ : Loc nD τ sig) → Buf (Elt F) ℓ) (ρ : Dev nD → PrngReg)

/-- The ghost state at launch. -/
def u₀ : UU :=
  (initOf (Pipeline.cells cfgs cellOf_inj) (Pipeline.launchToks cfgs cellOf_inj), launchOf barCells scCells toks)

/-- A resource held by one device, for the others nothing. -/
def onDev (c₀ : Dev nD) (X : sProp 𝕄) (c : Dev nD) : sProp 𝕄 := if c = c₀ then X else iprop(emp)
/-- Held by one device, it is there once. -/
theorem bigSep_onDev (c₀ : Dev nD) (X : sProp 𝕄) : bigSep Finset.univ (onDev c₀ X) = X := by
  rw [bigSep_univ_at _ c₀, bigSep_congr (s := Finset.univ.erase c₀) (Ψ := fun _ => (BI.emp : sProp 𝕄))
      fun c hc => by unfold onDev; rw [if_neg (Finset.ne_of_mem_erase hc)]; rfl, BI.bigSep_emp_const]
  unfold onDev; rw [if_pos rfl]
  exact Entails.antisymm sep_emp.1 sep_emp.2

/-- The protocol's ghost state at launch, with device 0. -/
def G : Dev nD → sProp 𝕄 := onDev 0 (BI.own (ER (launchOf barCells scCells toks)))

/-- The one semaphore that outlives the region is the barrier, -/
theorem unscoped_eq : ∀ sm : SemLoc sig, sm.isScoped .tc = false → sm = .reg barS := by decide
/-- so the counters held at launch are the barrier's. -/
theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- A device's state at the start -/
abbrev T₀ (c : Dev nD) : sProp 𝕄 := iprop(StableHlo.held (c : Thread nD τ) (Pipeline.ucRefs τ sig) (V0 m c) ∗ rides m 0 c)
/-- and at the end. -/
abbrev Tₙ (c : Dev nD) : sProp 𝕄 := iprop(StableHlo.held (c : Thread nD τ) (Pipeline.ucRefs τ sig) (VE m c) ∗ Yk c)

/-- What a device has from launch beside the protocol's ghost state. -/
def bundle (c : Dev nD) : sProp 𝕄 :=
  iprop(StableHlo.held (c : Thread nD τ) (Pipeline.ucRefs τ sig) (V0 m c) ∗ credits c ∗ owes (c : Thread nD τ) (O₀ c) ∅ ∗ ∃ r, prngReg c r)

/-- A device's state at the start, put together. -/
theorem T₀_intro (κ : GSem nD τ sig → ℕ) (c : Dev nD) : iprop(records (ins m) κ ∗ (linear c ∗ bundle m c)) ⊢ T₀ m c := by
  unfold bundle T₀ rides Tk
  iintro ⟨#HR, Hl, Hh, Hc, HO, Hp⟩
  isplitl [Hh]; · iexact Hh
  isplitl [Hl Hc]
  · isplitl [Hl]
    · iexists κ
      isplitr; · iexact HR
      iexact Hl
    iexact Hc
  isplitl [Hp]; · iexact Hp
  iexists ∅; iexact HO

/-- The launch: the cells made, the tokens dealt, every device at its start. -/
theorem init :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c.tc : Thread nD τ).loc b)) ∗ unscopedSems0 c
        ∗ owes (c.tc : Thread nD τ) (O₀ c) ∅ ∗ Pipeline.launchCred O₀ c ∗ prngReg c (ρ c) ∗ G c)
      ⊢ (iprop(bundle m c ∗ (semVal (barCell c) 0 ∗ G c)) : sProp 𝕄) := by
    rw [show unscopedBufs c (fun b => m ((c.tc : Thread nD τ).loc b)) = StableHlo.held (c : Thread nD τ) (Pipeline.ucRefs τ sig) (V0 m c)
      from Pipeline.unscopedBufs_held (Ix := Unit) (Name := ℕ) (U := UU) (Lvl := ℕ) c (V0 m c), unscopedSems0_eq]
    unfold bundle
    iintro ⟨Hh, Hus, HO, Hcr, Hp, HG⟩
    isplitl [Hh HO Hcr Hp]
    · isplitl [Hh]; · iexact Hh
      isplitl [Hcr]; · iapply (creds (F := F) c) $$ Hcr
      isplitl [HO]; · iexact HO
      iexists (ρ c); iexact Hp
    isplitl [Hus] <;> iassumption
  have hdeal : (bigSep Finset.univ fun c : Dev nD => iprop(unscopedBufs c (fun b => m ((c.tc : Thread nD τ).loc b)) ∗ unscopedSems0 c
        ∗ owes (c.tc : Thread nD τ) (O₀ c) ∅ ∗ Pipeline.launchCred O₀ c ∗ prngReg c (ρ c) ∗ G c))
      ⊢ (iprop(bigSep Finset.univ (bundle m) ∗ bigSep barCells (fun g => semVal g 0) ∗ BI.own (ER (launchOf barCells scCells toks))) : sProp 𝕄) := by
    refine BI.Entails.trans (bigSep_mono fun c _ => hcore c) ?_
    rw [bigSep_sep', bigSep_sep', bigSep_map, show bigSep Finset.univ (G (F := F)) = _ from bigSep_onDev 0 _]
    exact BI.Entails.refl _
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep scCells (fun g => (openTok ER g : sProp 𝕄)) ⊢ bigSep Finset.univ (fun c : Dev nD => bigSep Finset.univ (copyOpen (F := F) c)) :=
    Entails.of_eq (by
      rw [bigSep_map, bigSep_univ_prod]
      exact bigSep_congr fun c _ => twelve c fun g => openTok ER g)
  have hall (κ : GSem nD τ sig → ℕ) : iprop(records (ins m) κ ∗ bigSep Finset.univ fun c : Dev nD => iprop(linear c ∗ bundle m c)) ⊢ bigSep Finset.univ (T₀ m) :=
    bigSep_with_persistent fun c _ => T₀_intro m κ c
  iintro ⟨H, -⟩
  ihave H' := hdeal $$ H
  icases H' with ⟨HB, Hv, Hu⟩
  imod (Rounds.fund_launch ER (rd (ins m)) disjoint_cells (fun g _ h => h) toks) $$ [Hv Hu] with ⟨%κ, -, #Hinv, #Hr, Hat, Hopen, Htok⟩
  · isplitl [Hv] <;> iassumption
  ihave Htok' := (toks_dealt (F := F)) $$ Htok
  icases Htok' with ⟨Htb, Htc⟩
  imodintro
  iapply (hall κ)
  isplitr
  · unfold records
    isplitr; · iexact Hinv
    iexact Hr
  iapply pairUp
  isplitr [HB]
  · unfold linear
    iapply pairUp; isplitl [Hat]; · iapply hat $$ Hat
    iapply pairUp; isplitl [Hopen]; · iapply hopen $$ Hopen
    iapply pairUp; isplitl [Htb]; · iexact Htb
    iexact Htc
  · iexact HB

/-! ### The run -/

/-- A buffer that outlives the region is among the held ones. -/
theorem uc_mem (r : Ref sig .tc) (h : r.isScoped = false) : Proc.devRef .tc r ∈ Pipeline.ucRefs τ sig :=
  Finset.mem_filter.mpr ⟨StableHlo.devRef_mem_tcRefs r, by rw [show (Proc.devRef (τ := τ) .tc r).isScoped = r.isScoped from rfl, h]; decide⟩

/-- From any memory with zero counters, every weakly fair execution of @main on the four devices ends, and in the final state
    every device's arguments are unchanged, its result is `outArr`, and every semaphore is at zero. -/
theorem run_main : θ_run defs (onTc (τ := τ) (main (F := F))) ⟨m, fun _ => 0, ρ⟩ (fun r =>
    (∀ c : Dev nD, r.2.mem ((c.tc : Thread nD τ).loc main_v13) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  Pipeline.θ_run_regions_kit_dev_sems (pcfgs (F := F)) adm (dats m) () cellOf_inj EP defs₀ 𝒱₀ L lv m ρ main
    (segs m 𝒱₀ L lv (rides m) () (dats m) (reg m))
    (fun c Q => by
      rewrite [main_chain c, Pipeline.Seg.run_eq_chain,
        show (segs m 𝒱₀ L lv (rides m) () (dats m) (reg m) c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide) O₀ L_of_ne G u₀
    (by
      unfold u₀ G
      iintro Hu
      ihave H := (ownU_pair _ _) $$ Hu
      icases H with ⟨HP, HX⟩
      imodintro
      isplitl [HP]; · iexact HP
      rw [bigSep_onDev]; iexact HX)
    (T₀ m) (Tₙ m)
    (fun c => ⟨.rfl, reg_pre m c, (reg_post m c).trans (by
      unfold rides
      iintro ⟨Hh, Hb, HO⟩
      isplitr [HO]
      · isplitl [Hh] <;> iassumption
      · iexact HO)⟩)
    (init m ρ)
    (fun c s => (s.mem ((c.tc : Thread nD τ).loc main_v13) = outArr m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)) ∧ s.sem (barCell c) = 0)
    (fun c s' => by
      dsimp only [Tₙ]; unfold StableHlo.held
      iintro ⟨⟨Hh, Hb0⟩, HSI⟩
      icombine HSI Hb0 gives %hb
      ihave Hr := (pointsTo_read_all (Pipeline.ucRefs τ sig) (fun b => ((c : Thread nD τ).1, b)) (VE m c) s') $$ [Hh HSI]
      · isplitl [Hh] <;> iassumption
      icases Hr with ⟨%h, HSI⟩
      imodintro
      isplitr
      · ipureintro
        exact ⟨⟨(h _ (uc_mem main_v13 (by decide))).trans (VE_arr m c),
          (h _ (uc_mem main_arg0 (by decide))).trans (V2_main_arg0 m _ c),
          (h _ (uc_mem main_arg1 (by decide))).trans (V2_main_arg1 m _ c),
          (h _ (uc_mem main_arg2 (by decide))).trans (V2_main_arg2 m _ c),
          (h _ (uc_mem main_arg3 (by decide))).trans (V2_main_arg3 m _ c),
          (h _ (uc_mem main_arg4 (by decide))).trans (V2_main_arg4 m _ c)⟩, by simpa using hb⟩
      iexact HSI)
    (fun s h hs => ⟨fun c => (h c).1,
      sem_eq_zero hs fun c sm hsm => by
        obtain rfl := unscoped_eq sm hsm
        exact (h c).2⟩)

end Start

end Cert.KernelIdealRun

end
-- ==== Proof.HeadSpec.lean ====
/-
One head of the masked attention over the extended reals, row by row: what both programs compute.
-/
module

public import Idealize.ShloMosaic.Lib.Pointwise

@[expose] public section

noncomputable section

namespace Cert.Val

open Idealize.ShloMosaic

/-- The block of 64 positions that a position is in, as a word. -/
def blk (i : Fin 256) : BitVec 32 := BitVec.ofNat 32 (i.val / 64)

/-- Whether the query at `i` sees the key at `j`. -/
def sees (i j : Fin 256) : BitVec 1 :=
  IntOp.ori (IntOp.ori (IntOp.cmpi .eq (blk i) (blk j)) (IntOp.cmpi .eq (blk j) 0#32))
    (IntOp.cmpi .eq (IntOp.remsi .vector (IntOp.addi (blk i) (blk j)) 3#32) 0#32)

/-- The masked score of the query at `i` against the key at `j`. -/
def score (q k : Fin 256 → Fin 64 → EReal) (i j : Fin 256) : EReal :=
  Scalar.select (sees i j) ((∑ d, q i d * k j d) * Ideal.ofBits .f32 0x3E000000#32) (Ideal.ofBits .f32 0xCE6E6B28#32)

/-- The exponential of a row's entry less the row's largest. -/
def expo (s : Fin 256 → EReal) (j : Fin 256) : EReal :=
  Ideal.exp (s j - Finset.univ.fold max (Ideal.ofBits .f32 0xFF800000#32) s)

/-- The context of the query at `i`: the values weighted by the row's exponentials over their sum. -/
def att (q k v : Fin 256 → Fin 64 → EReal) (i : Fin 256) (d : Fin 64) : EReal :=
  ∑ j, Ideal.div (expo (score q k i) j) (∑ j', expo (score q k i) j') * v j d

/-- An or over all positions is one once it is one at a position. -/
theorem fold_ori_one (f : Fin 256 → BitVec 1) (j : Fin 256) (h : f j = 1#1) : Finset.univ.fold IntOp.ori (0#1) f = 1#1 := by
  rw [← Finset.insert_erase (Finset.mem_univ j), Finset.fold_insert (Finset.notMem_erase _ _), h]
  generalize Finset.fold IntOp.ori (0#1) f _ = y
  revert y; decide

/-- Every query sees the first key. -/
theorem sees_zero (i : Fin 256) : sees i 0 = 1#1 := by
  unfold sees blk
  have h : i.val / 64 < 4 := by omega
  generalize i.val / 64 = a at h
  interval_cases a <;> decide

end Cert.Val

end
-- ==== Proof.HeadValue.lean ====
/-
What one device's context blocks hold, read at an index: each head's attention.
-/
module

public import proofs.«01_k».proof.Proof.HeadSpec
public import proofs.«01_k».proof.Proof.KernelIdealSched
public import Idealize.ShloMosaic.Lib.IdealHost

@[expose] public section

noncomputable section

namespace Cert.Val

open Cert.KernelIdeal Cert.KernelIdeal.Gen Cert.KernelIdealRun
open Idealize.ShloMosaic

/-! ## One head of the kernel in parts -/

/-- The masked scores of one head. -/
def kerS (q : FVec Ideal S256x64 .f32) (k : Vec Ideal S1x1x256x64 .f32) : FVec Ideal S256x256 .f32 :=
  have k' : FVec Ideal S256x64 .f32 := shapeCast S256x64 k shapeCasts_S1x1x256x64_S256x64
  select msk (mulf (matmul dot_S256x64_S256x64_S256x256_1_1_0_0_n_n none q k' (constant S256x256 .f32 0x00000000#32))
    (broadcast S256x256 (Scalar.ofBits .f32 0x3E000000#32))) (broadcast S256x256 (Scalar.ofBits .f32 0xCE6E6B28#32))
/-- The exponentials of the scores less their row's largest. -/
def kerE (s : FVec Ideal S256x256 .f32) : FVec Ideal S256x256 .f32 :=
  exp (subf s (broadcastTo S256x256 (shapeCast S256x1 (multiReduction .maximumf [1] S256 s 0xFF800000#32 reduces_S256x256_S256 (.inl rfl) rfl) shapeCasts_S256_S256x1) broadcasts_S256x1_S256x256))
/-- The context of one head. -/
def kerH (e : FVec Ideal S256x256 .f32) (v : Vec Ideal S1x1x256x64 .f32) : FVec Ideal S256x64 .f32 :=
  have v' : FVec Ideal S256x64 .f32 := shapeCast S256x64 v shapeCasts_S1x1x256x64_S256x64
  matmul dot_S256x256_S256x64_S256x64_1_0_0_1_n_n none
    (divf e (broadcastTo S256x256 (shapeCast S256x1 (multiReduction .add [1] S256 e 0x00000000#32 reduces_S256x256_S256 (.inl rfl) rfl) shapeCasts_S256_S256x1) broadcasts_S256x1_S256x256))
    v' (constant S256x64 .f32 0x00000000#32)
/-- The block of queries of one head and batch lies in the projected queries. -/
theorem slicesQ (b : Fin 2) (h : Fin 4) : S512x256.Slices ![256 * b.val, 64 * h.val] S256x64 := by revert b h; decide
/-- The queries of one head of one batch. -/
def kerQ (b : Fin 2) (h : Fin 4) (q : FVec Ideal S512x256 .f32) : FVec Ideal S256x64 .f32 :=
  extractStridedSlice S256x64 ![256 * b.val, 64 * h.val] q (slicesQ b h)
/-- Four heads side by side, as the context block holds them. -/
def kerC (u : Fin 4 → FVec Ideal S256x64 .f32) : FVec Ideal S1x256x256 .bf16 :=
  shapeCast S1x256x256 (truncf .bf16 (concatenate S256x256 1 [⟨S256x64, u 0⟩, ⟨S256x64, u 1⟩, ⟨S256x64, u 2⟩, ⟨S256x64, u 3⟩]
    concatenates_S256x64_S256x64_S256x64_S256x64_S256x256_d1 : FVec Ideal S256x256 .f32) bitsLt_bf16_f32 : FVec Ideal S256x256 .bf16) shapeCasts_S256x256_S1x256x256

variable (I : Ins Ideal)

/-- One head's context on a device. -/
def headOf (b : Fin 2) (h : Fin 4) : FVec Ideal S256x64 .f32 := kerH (kerE (kerS (kerQ b h (qW I)) (kB I b h))) (vB I b h)

/-- Every head's chain of operations, however the printed program cuts it in pieces, is the same one: head 0 of batch 0, -/
theorem head00 : k0_pay10 (qW I) mA mB (kB I 0 0) (vB I 0 0) = headOf I 0 0 := rfl
/-- head 1, -/
theorem head01 : k0_pay13 (k0_pay11 (qW I) mA mB (kB I 0 1)) (k0_pay12 (qW I) mA mB (kB I 0 1)) (vB I 0 1) = headOf I 0 1 := rfl
/-- head 2; -/
theorem head02 : k0_pay14 (qW I) msk (kB I 0 2) (vB I 0 2) = headOf I 0 2 := rfl
/-- head 0 of batch 1, -/
theorem head10 : k0_pay19 msk (k0_pay18 (qW I)) (kB I 1 0) (vB I 1 0) = headOf I 1 0 := rfl
/-- head 1, -/
theorem head11 : k0_pay21 (k0_pay20 (qW I) msk (kB I 1 1)) (vB I 1 1) = headOf I 1 1 := rfl
/-- head 2. -/
theorem head12 : k0_pay22 (qW I) msk (kB I 1 2) (vB I 1 2) = headOf I 1 2 := rfl

/-- A context block is its batch's four heads side by side. -/
theorem ctxW_eq (b : Fin 2) : ctxW I b = kerC (headOf I b) := by
  match b with
  | 0 => exact show ctx0 I = _ by unfold ctx0; rw [head00, head01, head02]; rfl
  | 1 => exact show ctx1 I = _ by unfold ctx1; rw [head10, head11, head12]; rfl

/-! ## The parts at an index -/

/-- The mask lets position `i` see position `j` exactly by their block numbers. -/
theorem msk_apply (i j : Fin 256) : msk (ix2 i j) = sees i j := by
  pointwise [msk, mA, mB, k0_pay2, k0_pay3, k0_pay4, k0_pay5, k0_pay6, k0_pay7, k0_pay8, k0_pay9]
  have e : ∀ i : Fin 256, Scalar.select
      (IntOp.andi
        (IntOp.cmpi CmpIPredicate.ne
          (IntOp.subi (BitVec.setWidth 32 (IntOp.cmpi CmpIPredicate.sgt (BitVec.ofNat 32 i.val) 0#32))
            (BitVec.setWidth 32 (IntOp.cmpi CmpIPredicate.slt (BitVec.ofNat 32 i.val) 0#32)))
          (Scalar.subi (Scalar.extui (Scalar.cmpi CmpIPredicate.sgt 64#32 0#32)) (Scalar.extui (Scalar.cmpi CmpIPredicate.slt 64#32 0#32))))
        (IntOp.cmpi CmpIPredicate.ne (IntOp.remsi ArithUnit.vector (BitVec.ofNat 32 i.val) 64#32) 0#32))
      (IntOp.subi (IntOp.divsi ArithUnit.vector (BitVec.ofNat 32 i.val) 64#32) 1#32)
      (IntOp.divsi ArithUnit.vector (BitVec.ofNat 32 i.val) 64#32) = blk i := by decide +kernel
  rw [e, e]
  rfl

/-- The masked scores at an index, -/
theorem kerS_apply (q : FVec Ideal S256x64 .f32) (k : Vec Ideal S1x1x256x64 .f32) (i j : Fin 256) :
    kerS q k (ix2 i j) = score (fun i d => q (ix2 i d)) (fun j d => k (ix4 0 0 j d)) i j := by
  pointwise [kerS]
  rw [msk_apply]
  rfl

/-- their exponentials, -/
theorem kerE_apply (s : FVec Ideal S256x256 .f32) (i j : Fin 256) : kerE s (ix2 i j) = expo (fun j => s (ix2 i j)) j := by
  pointwise [kerE]
  rfl

/-- and the head's result: the attention. -/
theorem kerH_apply (q : FVec Ideal S256x64 .f32) (k v : Vec Ideal S1x1x256x64 .f32) (i : Fin 256) (d : Fin 64) :
    kerH (kerE (kerS q k)) v (ix2 i d) = att (fun i d => q (ix2 i d)) (fun j d => k (ix4 0 0 j d)) (fun j d => v (ix4 0 0 j d)) i d := by
  pointwise [kerH]
  simp only [kerE_apply, kerS_apply]
  rfl

/-- The heads side by side: column `j` is column `j % 64` of head `j / 64`. -/
theorem kerC_apply (u : Fin 4 → FVec Ideal S256x64 .f32) (i j : Fin 256) :
    kerC u (ix3 0 i j) = u ⟨j.val / 64, by omega⟩ (ix2 i ⟨j.val % 64, by omega⟩) := by
  pointwise [kerC]
  have key : ∀ (h : Fin 4) (d : Fin 64), h.val * 64 + d.val = j.val → u h (ix2 i d) = u ⟨j.val / 64, by omega⟩ (ix2 i ⟨j.val % 64, by omega⟩) := by
    intro h d e
    have hh : (⟨j.val / 64, by omega⟩ : Fin 4) = h := Fin.ext (by show j.val / 64 = h.val; omega)
    have hd : (⟨j.val % 64, by omega⟩ : Fin 64) = d := Fin.ext (by show j.val % 64 = d.val; omega)
    rw [hh, hd]
  split_ifs
  all_goals first
    | exact key 0 _ (by show 0 * 64 + j.val = j.val; omega)
    | exact key 1 _ (by show 1 * 64 + (j.val - 64) = j.val; omega)
    | exact key 2 _ (by show 2 * 64 + (j.val - 64 - 64) = j.val; omega)
    | exact key 3 _ (by show 3 * 64 + (j.val - 64 - 64 - 64) = j.val; omega)

/-! ## The loads at an index -/

/-- A load of a block reads the buffer at the block's offset on. -/
theorem load_at (b : Ref sig .tc) {off size : Fin b.ty.shape.rank → ℕ} (inb : ∀ a, off a + size a ≤ b.ty.shape.size a) (f : b.ty.Contents (Elt Ideal))
    (x : (Rect.unit off size inb).shape.Idx) (y : b.ty.shape.Idx) (h : ∀ a, (y a).val = off a + (x a).val) :
    (Memref.whole b).view.readAt (Elt Ideal) (Rect.unit off size inb).toLoadRect f x = f y := by
  have e : (Rect.unit off size inb).toLoadRect.idx x = y := funext fun a => Fin.ext (by
    rw [h a]; show off a + 1 * (x a).val = _; rw [Nat.one_mul])
  rw [View.readAt_apply, e]
  rfl

/-- The operands of a device as functions of their coordinates. -/
def xAt (r e : Fin 512) : EReal := I.x (ix2 r e)
/-- The device's columns of the query projection by row and column, -/
def wAt (e : Fin 512) (n : Fin 256) : EReal := I.wq (ix2 e n)
/-- its keys by batch, head, position and coordinate, -/
def kAt (b : Fin 2) (h : Fin 4) (j : Fin 256) (d : Fin 64) : EReal := I.k (ix4 b h j d)
/-- its values likewise, -/
def vAt (b : Fin 2) (h : Fin 4) (j : Fin 256) (d : Fin 64) : EReal := I.v (ix4 b h j d)
/-- the output projection by row and column. -/
def oAt (r : Fin 1024) (n : Fin 512) : EReal := I.wo (ix2 r n)

/-- The loads at an index: the keys, -/
theorem kB_apply (b : Fin 2) (h : Fin 4) (j : Fin 256) (d : Fin 64) : kB I b h (ix4 0 0 j d) = kAt I b h j d :=
  load_at cc0_stg2_0 _ _ _ _ fun a => match a with | 0 => rfl | 1 => rfl | 2 => (Nat.zero_add _).symm | 3 => (Nat.zero_add _).symm

/-- the values, -/
theorem vB_apply (b : Fin 2) (h : Fin 4) (j : Fin 256) (d : Fin 64) : vB I b h (ix4 0 0 j d) = vAt I b h j d :=
  load_at cc0_stg3_0 _ _ _ _ fun a => match a with | 0 => rfl | 1 => rfl | 2 => (Nat.zero_add _).symm | 3 => (Nat.zero_add _).symm

/-- the activations, -/
theorem xB_apply (r e : Fin 512) : xB I (ix2 r e) = xAt I r e :=
  load_at cc0_stg0_0 _ _ _ _ fun a => match a with | 0 => (Nat.zero_add _).symm | 1 => (Nat.zero_add _).symm

/-- the query projection. -/
theorem wB_apply (e : Fin 512) (n : Fin 256) : wB I (ix2 e n) = wAt I e n :=
  load_at cc0_stg1_0 _ _ _ _ fun a => match a with | 0 => (Nat.zero_add _).symm | 1 => (Nat.zero_add _).symm

/-- The queries of one head of one batch, as its device projects them. -/
def qAt (b : Fin 2) (h : Fin 4) (i : Fin 256) (d : Fin 64) : EReal :=
  ∑ e : Fin 512, xAt I ⟨256 * b.val + i.val, by omega⟩ e * wAt I e ⟨64 * h.val + d.val, by omega⟩

/-- The block of queries at an index. -/
theorem kerQ_apply (b : Fin 2) (h : Fin 4) (i : Fin 256) (d : Fin 64) : kerQ b h (qW I) (ix2 i d) = qAt I b h i d := by
  pointwise [kerQ, qW, k0_pay1]
  exact Finset.sum_congr rfl fun e _ => congrArg₂ (· * ·) (xB_apply I _ e) (wB_apply I e _)

/-- A context block at an index: the attention of the head that the column is in. -/
theorem ctxW_apply (b : Fin 2) (i j : Fin 256) :
    ctxW I b (ix3 0 i j) = att (qAt I b ⟨j.val / 64, by omega⟩) (kAt I b ⟨j.val / 64, by omega⟩) (vAt I b ⟨j.val / 64, by omega⟩) i ⟨j.val % 64, by omega⟩ := by
  rw [ctxW_eq, kerC_apply, headOf, kerH_apply]
  simp only [kerQ_apply, kB_apply, vB_apply]

end Cert.Val

end
-- ==== Proof.HostValue.lean ====
/-
What the host operations hand the kernel, read at an index of the arguments.
-/
module

public import proofs.«01_k».proof.Proof.HeadValue
public import proofs.«01_k».proof.Proof.KernelIdealRegion
public import Idealize.ShloMosaic.Lib.WordCmp
public import Idealize.ShloMosaic.Lib.StableHlo.RunClose

@[expose] public section

noncomputable section

namespace Cert.Val

open Cert.KernelIdeal Cert.KernelIdeal.Gen Cert.KernelIdealRun
open Idealize.ShloMosaic

variable (m : (l : Loc nD τ sig) → Buf (Elt Ideal) l) (c : Dev nD)

/-- The arguments of device `c` as functions of their coordinates. -/
def arg0 (b : Fin 2) (i : Fin 256) (e : Fin 512) : EReal := m (c.tc.loc main_arg0) (ix3 b i e)
/-- the query projection, -/
def arg1 (e : Fin 512) (n : Fin 1024) : EReal := m (c.tc.loc main_arg1) (ix2 e n)
/-- the keys of the device's heads, -/
def arg2 (b : Fin 2) (j : Fin 256) (h : Fin 4) (d : Fin 64) : EReal := m (c.tc.loc main_arg2) (ix4 b j h d)
/-- the values of the device's heads, -/
def arg3 (b : Fin 2) (j : Fin 256) (h : Fin 4) (d : Fin 64) : EReal := m (c.tc.loc main_arg3) (ix4 b j h d)
/-- the output projection. -/
def arg4 (n : Fin 1024) (j : Fin 512) : EReal := m (c.tc.loc main_arg4) (ix2 n j)

/-- The kernel gets the activations with the batches stacked, -/
theorem ins_x : (ins m c).x = shapeCast S512x512 (m (c.tc.loc main_arg0)) shapeCasts_S2x256x512_S512x512 := by
  show StableHlo.after (hostOps0 c) (V0 m c) (Proc.devRef .tc main_v10) = _
  after_results
  rfl

/-- the keys head by head, -/
theorem ins_k : (ins m c).k = transpose S2x4x256x64 [0, 2, 1, 3] (m (c.tc.loc main_arg2)) transposes_S2x256x4x64_S2x4x256x64_0_2_1_3 := by
  show StableHlo.after (hostOps0 c) (V0 m c) (Proc.devRef .tc main_v11) = _
  after_results

/-- the values head by head, -/
theorem ins_v : (ins m c).v = transpose S2x4x256x64 [0, 2, 1, 3] (m (c.tc.loc main_arg3)) transposes_S2x256x4x64_S2x4x256x64_0_2_1_3 := by
  show StableHlo.after (hostOps0 c) (V0 m c) (Proc.devRef .tc main_v12) = _
  after_results

/-- the output projection as it is, -/
theorem ins_wo : (ins m c).wo = m (c.tc.loc main_arg4) := V1_of m c main_arg4 (by decide)

/-- The column that the device's slice of the query projection starts at, as the program computes it. -/
def startW : IVec S_ 32 :=
  let n : IVec S_ 32 := muli (Host.remui (Host.divui (constantI S_ 32 (Dev.word c)) (constantI S_ 32 1#32)) (constantI S_ 32 4#32)) (constantI S_ 32 256#32)
  select (cmpi .slt n (constantI S_ 32 0#32)) (addi n (constantI S_ 32 1024#32)) n

/-- Device `c`'s slice starts at column `256 c`. -/
theorem startW_val : ∀ c : Dev nD, (startW c (Shape.Idx.first h_S_)).toInt = ((256 * c.val : ℕ) : Int) := by decide +kernel

/-- and of the query projection the slice of its columns. -/
theorem ins_wq : (ins m c).wq = Host.dynamicSlice S512x256 (m (c.tc.loc main_arg1))
    (fun k => ((![constantI S_ 32 0#32, startW c] : Fin 2 → IVec S_ 32) k (Shape.Idx.first h_S_)).toInt) sliceFits_S512x1024_S512x256 := by
  show StableHlo.after (hostOps0 c) (V0 m c) (Proc.devRef .tc main_v9) = _
  after_results_simp_entrywise
  rfl

/-- That slice lies in the query projection. -/
theorem slices_wq : S512x1024.Slices ![0, 256 * c.val] S512x256 := by revert c; decide

/-- The kernel's operands at an index of the arguments: the activations, -/
theorem xAt_ins (r e : Fin 512) : xAt (ins m c) r e = arg0 m c ⟨r.val / 256, by omega⟩ ⟨r.val % 256, by omega⟩ e := by
  unfold xAt
  rw [ins_x]
  refine shapeCast_apply (s := S2x256x512) _ _ _ _ ?_
  rw [Shape.rowMajor_val_three, Shape.rowMajor_val_two]
  show (r.val / 256 * 256 + r.val % 256) * 512 + e.val = r.val * 512 + e.val
  omega

/-- the keys, -/
theorem kAt_ins (b : Fin 2) (h : Fin 4) (j : Fin 256) (d : Fin 64) : kAt (ins m c) b h j d = arg2 m c b j h d := by
  unfold kAt
  rw [ins_k]
  pointwise []
  rfl

/-- the values, -/
theorem vAt_ins (b : Fin 2) (h : Fin 4) (j : Fin 256) (d : Fin 64) : vAt (ins m c) b h j d = arg3 m c b j h d := by
  unfold vAt
  rw [ins_v]
  pointwise []
  rfl

/-- the output projection, -/
theorem oAt_ins (n : Fin 1024) (j : Fin 512) : oAt (ins m c) n j = arg4 m c n j := by
  unfold oAt
  rw [ins_wo]
  rfl

/-- the query projection. -/
theorem wAt_ins (e : Fin 512) (n : Fin 256) :
    wAt (ins m c) e n = arg1 m c e ⟨256 * c.val + n.val, by have : c.val < 4 := c.isLt; omega⟩ := by
  unfold wAt
  rw [ins_wq, WordCmp.dynamicSlice_eq_extract (s := S512x1024) S512x256 _ _ _ ![0, 256 * c.val] (slices_wq c)
    (fun a => match a with | 0 => rfl | 1 => startW_val c)]
  pointwise []
  rfl

end Cert.Val

end
-- ==== Proof.OutValue.lean ====
/-
What a device's result holds at an index: the four devices' contexts, each against its rows of the output projection.
-/
module

public import proofs.«01_k».proof.Proof.HeadValue
public import proofs.«01_k».proof.Proof.KernelIdealRegion

@[expose] public section

noncomputable section

namespace Cert.Val

open Cert.KernelIdeal Cert.KernelIdeal.Gen Cert.KernelIdealRun
open Idealize.ShloMosaic

/-- The rows for the own context start at row `256 c`, -/
theorem off1_val : ∀ (c : Dev nD) (a : Fin 2), k0_off1 c a = ![256 * c.val, 0] a := by decide +kernel

/-- those for a slot's at 256 times the device that its context comes from. -/
theorem off2_val : ∀ (c : Dev nD) (r : Fin 3) (a : Fin 2), k0_off2 c (BitVec.ofNat 32 r.val) a = ![256 * (org c r).val, 0] a := by decide +kernel

variable (I : Dev nD → Ins Ideal) (c : Dev nD)

/-- Row `x` of the 256 rows of the output projection that device `o`'s heads meet. -/
def rowAt (J : Ins Ideal) (o : Dev nD) (x : Fin 256) (j : Fin 512) : EReal := oAt J ⟨256 * o.val + x.val, by have : o.val < 4 := o.isLt; omega⟩ j

/-- The loaded rows for the own context at an index, -/
theorem woO_apply (J : Ins Ideal) (x : Fin 256) (j : Fin 512) : woO J c (ix2 x j) = rowAt J c x j :=
  load_at cc0_stg4_0 _ _ _ _ fun a => match a with
    | 0 => congrArg (· + x.val) (off1_val c 0).symm
    | 1 => ((congrArg (· + j.val) (off1_val c 1)).trans (Nat.zero_add _)).symm

/-- and those for a slot's. -/
theorem woK_apply (J : Ins Ideal) (r : Fin 3) (x : Fin 256) (j : Fin 512) : woK J c r (ix2 x j) = rowAt J (org c r) x j :=
  load_at cc0_stg4_0 _ _ _ _ fun a => match a with
    | 0 => congrArg (· + x.val) (off2_val c r 0).symm
    | 1 => ((congrArg (· + j.val) (off2_val c r 1)).trans (Nat.zero_add _)).symm

/-- A landed block is the block sent. -/
theorem land_apply (w : FVec Ideal S1x256x256 .bf16) (i x : Fin 256) : land (F := Ideal) w (ix4 0 0 i x) = (w (ix3 0 i x) : EReal) := by
  pointwise [land]

/-- What device `o`'s context of batch `b` adds to the result of device `c`. -/
def part (b : Fin 2) (o : Dev nD) (i : Fin 256) (j : Fin 512) : EReal := ∑ x : Fin 256, ctxW (I o) b (ix3 0 i x) * rowAt (I c) o x j

/-- The result's block of a batch: the four contexts' contributions, in the order that the device adds them. -/
theorem outW_apply (b : Fin 2) (i : Fin 256) (j : Fin 512) :
    outW I c b (ix3 0 i j) = part I c b c i j + part I c b (org c 0) i j + part I c b (org c 2) i j + part I c b (org c 1) i j := by
  match b with
  | 0 =>
    show a3 I c (ix3 0 i j) = _
    pointwise [a3, a2, a1, a0, k0_pay40, k0_pay39, k0_pay37, k0_pay36, k0_pay35, k0_pay34, k0_pay30, k0_pay29, k0_pay27, k0_pay26, k0_pay25]
    simp only [landed, land_apply, woO_apply, woK_apply, part]
  | 1 =>
    show b3 I c (ix3 0 i j) = _
    pointwise [b3, b2, b1, b0, k0_pay41, k0_pay39, k0_pay38, k0_pay34, k0_pay33, k0_pay32, k0_pay31, k0_pay29, k0_pay28, k0_pay25]
    simp only [landed, land_apply, woO_apply, woK_apply, part]

/-- Contents glued of blocks hold, where a block's coordinate `x` falls, the block's value at `x`. -/
theorem glue_apply (b : Ref sig .tc) {T : Type} (r : T → Rect b.ty.shape) (hc : ∀ i : b.ty.shape.Idx, ∃ t, i ∈ ((Memref.whole b).access (r t)).set)
    (hd : ∀ t t', t ≠ t' → Disjoint ((Memref.whole b).access (r t)).set ((Memref.whole b).access (r t')).set)
    (w : (t : T) → (r t).shape.Idx → Elt Ideal b.ty.elt) (t : T) (x : (r t).shape.Idx) (y : b.ty.shape.Idx) (hy : (r t).emb x = y) :
    glue b r hc w y = w t x := by
  subst hy
  exact congrFun (read_glue b r hc hd w t) x

/-- The result's buffer at an index. -/
theorem outBuf_apply (b : Fin 2) (i : Fin 256) (j : Fin 512) : outBuf I c (ix3 b i j) = outW I c b (ix3 0 i j) := by
  refine glue_apply cc0_stg5_0 rO blocksO.cover blocksO.apart (outW I c) b (ix3 0 i j) (ix3 b i j) ?_
  funext a
  apply Fin.ext
  show ![b.val, 0, 0] a + 1 * (ix3 (0 : Fin 1) i j a).val = (ix3 b i j a).val
  match a with
  | 0 => rfl
  | 1 => show 0 + 1 * i.val = i.val; omega
  | 2 => show 0 + 1 * j.val = j.val; omega

end Cert.Val

end
-- ==== Proof.ReferenceValue.lean ====
/-
What the reference computes, read at an index: its output is every head's context times the output weights.
-/
module

public import proofs.«01_k».proof.Proof.HeadSpec
public import proofs.«01_k».proof.Proof.Gen.ReferenceIdeal.Run
public import Idealize.ShloMosaic.Lib.IdealHost

@[expose] public section

noncomputable section

namespace Cert.Val

open Cert.ReferenceIdeal Cert.ReferenceIdeal.Gen Cert.ReferenceIdeal.Value
open Idealize.ShloMosaic
open Idealize.ShloMosaic.TcCoe Idealize.SL.Sem Idealize.ShloMosaic.StableHlo

/-! ## The reference's term in parts -/

/-- The block number of a position. -/
def refBlk : IVec S256 32 :=
  select (andi (cmpi .ne (signi (iotaInDim S256 32 0)) (broadcastInDim S256 ![] bcast_S_S256 (signi (id (constantI S_ 32 64#32)))))
      (cmpi .ne (Host.remsi (iotaInDim S256 32 0) (broadcastInDim S256 ![] bcast_S_S256 (id (constantI S_ 32 64#32)))) (broadcastInDim S256 ![] bcast_S_S256 (constantI S_ 32 0#32))))
    (subi (Host.divsi (iotaInDim S256 32 0) (broadcastInDim S256 ![] bcast_S_S256 (id (constantI S_ 32 64#32)))) (broadcastInDim S256 ![] bcast_S_S256 (constantI S_ 32 1#32)))
    (Host.divsi (iotaInDim S256 32 0) (broadcastInDim S256 ![] bcast_S_S256 (id (constantI S_ 32 64#32))))
/-- The block numbers down the rows, along one row, along every row. -/
def refRow : IVec S256x256 32 := broadcastInDim S256x256 ![0, 1] bcast_S256x1_S256x256_0_1 (broadcastInDim S256x1 ![0] bcast_S256_S256x1_0 refBlk)
/-- The block numbers as a row, -/
def refCol : IVec S1x256 32 := broadcastInDim S1x256 ![1] bcast_S256_S1x256_1 refBlk
/-- repeated down the columns. -/
def refCols : IVec S256x256 32 := broadcastInDim S256x256 ![0, 1] bcast_S1x256_S256x256_0_1 refCol
/-- The divisor of the remainder. -/
def refDiv : IVec S_ 32 := select (cmpi .eq (id (constantI S_ 32 3#32)) (constantI S_ 32 0#32)) (constantI S_ 32 1#32) (id (constantI S_ 32 3#32))
/-- The truncated remainder of the sum of two block numbers. -/
def refRem : IVec S256x256 32 := Host.remsi (addi refRow refCols) (broadcastInDim S256x256 ![] bcast_S_S256x256 refDiv)
/-- The mask. -/
def refMask : IVec S256x256 1 :=
  ori (ori (cmpi .eq refRow refCols) (broadcastInDim S256x256 ![0, 1] bcast_S1x256_S256x256_0_1 (cmpi .eq refCol (broadcastInDim S1x256 ![] bcast_S_S1x256 (constantI S_ 32 0#32)))))
    (cmpi .eq (select (andi (cmpi .ne (cmpi .slt refRem (broadcastInDim S256x256 ![] bcast_S_S256x256 (constantI S_ 32 0#32))) (broadcastInDim S256x256 ![] bcast_S_S256x256 (cmpi .slt refDiv (constantI S_ 32 0#32))))
        (cmpi .ne refRem (broadcastInDim S256x256 ![] bcast_S_S256x256 (constantI S_ 32 0#32)))) (addi refRem (broadcastInDim S256x256 ![] bcast_S_S256x256 refDiv)) refRem)
      (broadcastInDim S256x256 ![] bcast_S_S256x256 (constantI S_ 32 0#32)))
/-- The rows of the mask that keep a column. -/
def refKeep : IVec S256 1 := Host.reduce IntOp.ori refMask (constantI S_ 1 0#1) reducesTo_S256x256_S256_d1 h_S_
/-- Every head's queries. -/
def refQ (x : FVec Ideal S2x256x512 .f32) (wq : FVec Ideal S512x1024 .f32) : FVec Ideal S2x256x16x64 .f32 :=
  shapeCast _ (Host.dotGeneral dot_S2x256x512_S512x1024_S2x256x1024_2_0_01_1_n_n none x wq) shapeCasts_S2x256x1024_S2x256x16x64
/-- The masked scores. -/
def refS (q k : FVec Ideal S2x256x16x64 .f32) : FVec Ideal S2x16x256x256 .f32 :=
  select (broadcastInDim S2x16x256x256 ![0, 1, 2, 3] bcast_S1x1x256x256_S2x16x256x256_0_1_2_3 (broadcastInDim S1x1x256x256 ![2, 3] bcast_S256x256_S1x1x256x256_2_3 refMask))
    (mulf (Host.dotGeneral dot_S2x256x16x64_S2x256x16x64_S2x16x256x256_3_3_1_1_02_02 none q k) (broadcastInDim S2x16x256x256 ![] bcast_S_S2x16x256x256 (constant S_ .f32 0x3E000000#32)))
    (broadcastInDim S2x16x256x256 ![] bcast_S_S2x16x256x256 (id (constant S_ .f32 0xCE6E6B28#32)))
/-- The exponentials of the scores less their row's largest. -/
def refE (s : FVec Ideal S2x16x256x256 .f32) : FVec Ideal S2x16x256x256 .f32 :=
  Host.exp (subf s (broadcastInDim S2x16x256x256 ![0, 1, 2, 3] bcast_S2x16x256x1_S2x16x256x256_0_1_2_3 (broadcastInDim S2x16x256x1 ![0, 1, 2] bcast_S2x16x256_S2x16x256x1_0_1_2
    (Host.reduce FloatOps.maximumf s (constant S_ .f32 0xFF800000#32) reducesTo_S2x16x256x256_S2x16x256_d3 h_S_))))
/-- The weights. -/
def refW (e : FVec Ideal S2x16x256x256 .f32) : FVec Ideal S2x16x256x256 .f32 :=
  select (broadcastInDim S2x16x256x256 ![0, 1, 2, 3] bcast_S1x1x256x1_S2x16x256x256_0_1_2_3 (broadcastInDim S1x1x256x1 ![2] bcast_S256_S1x1x256x1_2 refKeep))
    (Host.divf e (broadcastInDim S2x16x256x256 ![0, 1, 2, 3] bcast_S2x16x256x1_S2x16x256x256_0_1_2_3
      (select (broadcastInDim S2x16x256x1 ![0, 1, 2, 3] bcast_S1x1x256x1_S2x16x256x1_0_1_2_3 (broadcastInDim S1x1x256x1 ![2] bcast_S256_S1x1x256x1_2 refKeep))
        (broadcastInDim S2x16x256x1 ![0, 1, 2] bcast_S2x16x256_S2x16x256x1_0_1_2 (Host.reduceAdd e (constant S_ .f32 0x00000000#32) reducesTo_S2x16x256x256_S2x16x256_d3 h_S_))
        (broadcastInDim S2x16x256x1 ![] bcast_S_S2x16x256x1 (id (constant S_ .f32 0x3F800000#32))))))
    (broadcastInDim S2x16x256x256 ![] bcast_S_S2x16x256x256 (id (constant S_ .f32 0x00000000#32)))
/-- Every head's context, the heads side by side. -/
def refC (w : FVec Ideal S2x16x256x256 .f32) (v : FVec Ideal S2x256x16x64 .f32) : FVec Ideal S2x256x1024 .f32 :=
  shapeCast _ (transpose S2x256x16x64 [0, 3, 1, 2] (Host.dotGeneral dot_S2x256x16x64_S2x16x256x256_S2x16x64x256_1_3_3_2_02_01 none v w) transposes_S2x16x64x256_S2x256x16x64_0_3_1_2) shapeCasts_S2x256x16x64_S2x256x1024
/-- The result. -/
def refOut (x : FVec Ideal S2x256x512 .f32) (wq : FVec Ideal S512x1024 .f32) (k v : FVec Ideal S2x256x16x64 .f32) (wo : FVec Ideal S1024x512 .f32) : FVec Ideal S2x256x512 .f32 :=
  Host.dotGeneral dot_S2x256x1024_S1024x512_S2x256x512_2_0_01_1_n_n none (refC (refW (refE (refS (refQ x wq) k))) v) wo

/-- The parts put together are the reference's term. -/
theorem res_eq (m : (ℓ : Loc nD τ sig) → Buf (Elt Ideal) ℓ) (c : Dev nD) :
    res_main_v44 m c = refOut (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

/-! ## The parts at an index -/

/-- The block numbers at an index, -/
theorem refBlk_apply (i : Fin 256) : refBlk (ix1 i) = blk i := by
  pointwise [refBlk]
  revert i; decide +kernel

/-- the mask at an index, -/
theorem refMask_apply (i j : Fin 256) : refMask (ix2 i j) = sees i j := by
  pointwise [refMask, refRow, refCols, refCol, refRem, refDiv]
  rw [refBlk_apply, refBlk_apply]
  unfold sees blk
  have hi : i.val / 64 < 4 := by omega
  have hj : j.val / 64 < 4 := by omega
  generalize i.val / 64 = a at hi
  generalize j.val / 64 = b at hj
  interval_cases a <;> interval_cases b <;> decide +kernel

/-- every row of which sees something. -/
theorem refKeep_apply (i : Fin 256) : refKeep (ix1 i) = 1#1 := by
  pointwise [refKeep]
  exact fold_ori_one _ 0 ((refMask_apply i 0).trans (sees_zero i))

/-- One head's block of a buffer of heads. -/
def slabOf (q : FVec Ideal S2x256x16x64 .f32) (b : Fin 2) (h : Fin 16) (i : Fin 256) (d : Fin 64) : EReal := q (ix4 b i h d)

/-- The masked scores at an index, -/
theorem refS_apply (q k : FVec Ideal S2x256x16x64 .f32) (b : Fin 2) (h : Fin 16) (i j : Fin 256) :
    refS q k (ix4 b h i j) = score (slabOf q b h) (slabOf k b h) i j := by
  pointwise [refS]
  rw [refMask_apply]
  rfl

/-- their exponentials, -/
theorem refE_apply (s : FVec Ideal S2x16x256x256 .f32) (b : Fin 2) (h : Fin 16) (i j : Fin 256) :
    refE s (ix4 b h i j) = expo (fun j => s (ix4 b h i j)) j := by
  pointwise [refE]
  rfl

/-- the weights, -/
theorem refW_apply (e : FVec Ideal S2x16x256x256 .f32) (b : Fin 2) (h : Fin 16) (i j : Fin 256) :
    refW e (ix4 b h i j) = Ideal.div (e (ix4 b h i j)) (∑ j', e (ix4 b h i j')) := by
  pointwise [refW]
  rw [refKeep_apply]
  rfl

/-- and the context: the attention of the head that the column is in. -/
theorem refC_apply (q k v : FVec Ideal S2x256x16x64 .f32) (b : Fin 2) (i : Fin 256) (n : Fin 1024) :
    refC (refW (refE (refS q k))) v (ix3 b i n)
      = att (slabOf q b ⟨n.val / 64, by omega⟩) (slabOf k b ⟨n.val / 64, by omega⟩) (slabOf v b ⟨n.val / 64, by omega⟩) i ⟨n.val % 64, by omega⟩ := by
  pointwise [refC]
  unfold att
  refine Finset.sum_congr rfl fun j _ => ?_
  rw [mul_comm, refW_apply]
  simp only [refE_apply, refS_apply]
  rfl

/-- The reference's result at an index: the contexts of all heads times the output weights. -/
theorem refOut_apply (x : FVec Ideal S2x256x512 .f32) (wq : FVec Ideal S512x1024 .f32) (k v : FVec Ideal S2x256x16x64 .f32) (wo : FVec Ideal S1024x512 .f32)
    (b : Fin 2) (i : Fin 256) (j : Fin 512) :
    refOut x wq k v wo (ix3 b i j) = ∑ n : Fin 1024,
      att (slabOf (refQ x wq) b ⟨n.val / 64, by omega⟩) (slabOf k b ⟨n.val / 64, by omega⟩) (slabOf v b ⟨n.val / 64, by omega⟩) i ⟨n.val % 64, by omega⟩
        * wo (ix2 n j) := by
  pointwise [refOut]
  exact Finset.sum_congr rfl fun n _ => by rw [refC_apply]

/-- A query of the reference: the projection of its row. -/
theorem slabOf_refQ (x : FVec Ideal S2x256x512 .f32) (wq : FVec Ideal S512x1024 .f32) (b : Fin 2) (h : Fin 16) (i : Fin 256) (d : Fin 64) :
    slabOf (refQ x wq) b h i d = ∑ e : Fin 512, x (ix3 b i e) * wq (ix2 e ⟨h.val * 64 + d.val, by omega⟩) := by
  pointwise [slabOf, refQ]

end Cert.Val

end
-- ==== Proof.Agree.lean ====
/-
The kernel's result is the reference's: from arguments that hold the reference's arrays, or the device's heads of them,
every device's result is the reference's whole result.
-/
module

public import proofs.«01_k».proof.Proof.HostValue
public import proofs.«01_k».proof.Proof.OutValue
public import proofs.«01_k».proof.Proof.ReferenceValue

@[expose] public section

noncomputable section

namespace Cert.Val

open Cert.KernelIdeal Cert.KernelIdeal.Gen Cert.KernelIdealRun
open Idealize.ShloMosaic

/-- Head `h` of device `c`, numbered among the sixteen. -/
def headNo (c : Dev nD) (h : Fin 4) : Fin 16 := ⟨c.val * 4 + h.val, by have : c.val < 4 := c.isLt; omega⟩

/-- Each device holds the reference's arrays whole, of the keys and of the values its own four heads. -/
structure Holds (m : (l : Loc nD τ sig) → Buf (Elt Ideal) l) (x : FVec Ideal S2x256x512 .f32) (wq : FVec Ideal S512x1024 .f32)
    (k v : FVec Ideal ⟨4, ![2, 256, 16, 64]⟩ .f32) (wo : FVec Ideal S1024x512 .f32) : Prop where
  x : ∀ c b i e, arg0 m c b i e = x (ix3 b i e)
  wq : ∀ c e n, arg1 m c e n = wq (ix2 e n)
  k : ∀ c b j h d, arg2 m c b j h d = k (ix4 b j (headNo c h) d)
  v : ∀ c b j h d, arg3 m c b j h d = v (ix4 b j (headNo c h) d)
  wo : ∀ c n j, arg4 m c n j = wo (ix2 n j)

variable {m : (l : Loc nD τ sig) → Buf (Elt Ideal) l} {x : FVec Ideal S2x256x512 .f32} {wq : FVec Ideal S512x1024 .f32}
  {k v : FVec Ideal ⟨4, ![2, 256, 16, 64]⟩ .f32} {wo : FVec Ideal S1024x512 .f32}

/-- The queries that a device projects are the reference's queries of its heads. -/
theorem qAt_holds (H : Holds m x wq k v wo) (c : Dev nD) (b : Fin 2) (h : Fin 4) :
    qAt (ins m c) b h = slabOf (refQ x wq) b (headNo c h) := by
  funext i d
  rw [slabOf_refQ, qAt]
  refine Finset.sum_congr rfl fun e _ => ?_
  rw [xAt_ins, wAt_ins, H.x, H.wq]
  have hb : (⟨(256 * b.val + i.val) / 256, by omega⟩ : Fin 2) = b := Fin.ext (by show (256 * b.val + i.val) / 256 = b.val; omega)
  have hi : (⟨(256 * b.val + i.val) % 256, by omega⟩ : Fin 256) = i := Fin.ext (by show (256 * b.val + i.val) % 256 = i.val; omega)
  have hc : c.val < 4 := c.isLt
  have hn : (⟨256 * c.val + (64 * h.val + d.val), by omega⟩ : Fin 1024) = ⟨(headNo c h).val * 64 + d.val, by have := (headNo c h).isLt; omega⟩ :=
    Fin.ext (by show 256 * c.val + (64 * h.val + d.val) = (c.val * 4 + h.val) * 64 + d.val; omega)
  exact congrArg₂ (· * ·) (by rw [hb, hi]) (congrArg (fun n => wq (ix2 e n)) hn)

/-- The keys of a device's heads, -/
theorem kAt_holds (H : Holds m x wq k v wo) (c : Dev nD) (b : Fin 2) (h : Fin 4) : kAt (ins m c) b h = slabOf k b (headNo c h) := by
  funext j d
  rw [kAt_ins, H.k]
  rfl
/-- and the values. -/
theorem vAt_holds (H : Holds m x wq k v wo) (c : Dev nD) (b : Fin 2) (h : Fin 4) : vAt (ins m c) b h = slabOf v b (headNo c h) := by
  funext j d
  rw [vAt_ins, H.v]
  rfl

/-- The summand of column `n` of the context in the reference's result. -/
def term (x : FVec Ideal S2x256x512 .f32) (wq : FVec Ideal S512x1024 .f32) (k v : FVec Ideal ⟨4, ![2, 256, 16, 64]⟩ .f32)
    (wo : FVec Ideal S1024x512 .f32) (b : Fin 2) (i : Fin 256) (j : Fin 512) (n : Fin 1024) : EReal :=
  att (slabOf (refQ x wq) b ⟨n.val / 64, by omega⟩) (slabOf k b ⟨n.val / 64, by omega⟩) (slabOf v b ⟨n.val / 64, by omega⟩) i ⟨n.val % 64, by omega⟩
    * wo (ix2 n j)

/-- What device `o`'s context adds on any device: the reference's summands of its 256 columns. -/
theorem part_holds (H : Holds m x wq k v wo) (c o : Dev nD) (b : Fin 2) (i : Fin 256) (j : Fin 512) :
    part (ins m) c b o i j = ∑ t : Fin 256, term x wq k v wo b i j ⟨o.val * 256 + t.val, by have : o.val < 4 := o.isLt; omega⟩ := by
  refine Finset.sum_congr rfl fun t _ => ?_
  have ho : o.val < 4 := o.isLt
  rw [ctxW_apply, qAt_holds H, kAt_holds H, vAt_holds H, rowAt, oAt_ins, H.wo, term]
  have hh : (⟨(o.val * 256 + t.val) / 64, by omega⟩ : Fin 16) = headNo o ⟨t.val / 64, by omega⟩ :=
    Fin.ext (by show (o.val * 256 + t.val) / 64 = o.val * 4 + t.val / 64; omega)
  have hd : (⟨(o.val * 256 + t.val) % 64, by omega⟩ : Fin 64) = ⟨t.val % 64, by omega⟩ :=
    Fin.ext (by show (o.val * 256 + t.val) % 64 = t.val % 64; omega)
  have hr : (⟨256 * o.val + t.val, by omega⟩ : Fin 1024) = ⟨o.val * 256 + t.val, by omega⟩ :=
    Fin.ext (by show 256 * o.val + t.val = o.val * 256 + t.val; omega)
  simp only [hh, hd, hr]

/-- The four devices in the order that a device adds them up are all the devices. -/
theorem sum_org (f : Fin 4 → EReal) : ∀ c : Dev nD, f c + f (org c 0) + f (org c 2) + f (org c 1) = ∑ o : Fin 4, f o := by
  intro c
  rw [Fin.sum_univ_four]
  match c with
  | 0 => show f 0 + f 1 + f 3 + f 2 = _; abel
  | 1 => show f 1 + f 2 + f 0 + f 3 = _; abel
  | 2 => show f 2 + f 3 + f 1 + f 0 = _; abel
  | 3 => show f 3 + f 0 + f 2 + f 1 = _; abel

/-- Every device's result is the reference's. -/
theorem outArr_holds (H : Holds m x wq k v wo) (c : Dev nD) : outArr m c = refOut x wq k v wo := by
  have key : ∀ (b : Fin 2) (i : Fin 256) (j : Fin 512), outArr m c (ix3 b i j) = refOut x wq k v wo (ix3 b i j) := by
    intro b i j
    rw [refOut_apply]
    show _ = ∑ n : Fin 1024, term x wq k v wo b i j n
    rw [Fin.sum_univ_tiles 4 256 rfl (fun n => term x wq k v wo b i j n), outArr, outBuf_apply, outW_apply]
    simp only [part_holds H]
    exact sum_org (fun o => ∑ t : Fin 256, term x wq k v wo b i j ⟨o.val * 256 + t.val, by have : o.val < 4 := o.isLt; omega⟩) c
  funext y
  have hy : y = ix3 (y 0) (y 1) (y 2) := by funext a; match a with | 0 => rfl | 1 => rfl | 2 => rfl
  rw [hy]
  exact key _ _ _

end Cert.Val

end
-- ==== Proof.lean ====
module

public import proofs.«01_k».proof.Defs
public import proofs.«01_k».proof.Proof.KernelRun
public import proofs.«01_k».proof.Proof.KernelIdealRun
public import proofs.«01_k».proof.Proof.Agree
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

/-- Each program ends without fault, its arguments unchanged and every semaphore at zero. -/
theorem frames : Cert.quiescent_Kernel ∧ Cert.quiescent_KernelIdeal ∧ Cert.quiescent_ReferenceIdeal :=
  ⟨fun m g _ => (θ_run _ _ _).mono (fun _ h => ⟨fun c => (h.1 c).2, h.2⟩) (Cert.KernelRun.run_main (F := Bits) m g),
   fun m g _ => (θ_run _ _ _).mono (fun _ h => ⟨fun c => (h.1 c).2, h.2⟩) (Cert.KernelIdealRun.run_main (F := Ideal) m g),
   fun m g _ => (θ_run _ _ _).mono (fun r h => ⟨fun c => (h c).2, sem_eq_zero_of_no_sems rfl r.2⟩) (Cert.ReferenceIdeal.Value.run (F := Ideal) m g)⟩

/-- A device's block of an array cut by heads holds, at head `h`, the array at the head of that number. -/
theorem block_heads (c : Dev 4) (u : FVec Ideal ⟨4, ![2, 256, 16, 64]⟩ .f32) (b : Fin 2) (j : Fin 256) (h : Fin 4) (d : Fin 64) :
    Layout.block ⟨4, ![2, 256, 4, 64]⟩ ⟨4, ![2, 256, 16, 64]⟩ 2 4 c u (by decide) (ix4 b j h d) = u (ix4 b j (Cert.Val.headNo c h) d) := by
  rw [Layout.block_apply]
  congr 1
  funext a
  apply Fin.ext
  rw [Layout.Tiles.idx_val]
  match a with
  | 0 => rfl
  | 1 => rfl
  | 2 => rfl
  | 3 => rfl

/-- Over the extended reals the kernel's result, on every device, is the reference's. -/
theorem algebraic : Cert.algebraic_KernelIdeal_ReferenceIdeal := fun m g m' g' _ hag => by
  refine ⟨Cert.ReferenceIdeal.Value.res_main_v44 m' 0, ?_, ?_⟩
  · have H : Cert.Val.Holds m _ _ _ _ _ :=
      { x := fun c b i e => congrFun (hag c).1 (ix3 b i e)
        wq := fun c e n => congrFun (hag c).2.1 (ix2 e n)
        k := fun c b j h d => (congrFun (hag c).2.2.1 (ix4 b j h d)).trans (block_heads c _ b j h d)
        v := fun c b j h d => (congrFun (hag c).2.2.2.1 (ix4 b j h d)).trans (block_heads c _ b j h d)
        wo := fun c n j => congrFun (hag c).2.2.2.2 (ix2 n j) }
    refine (θ_run _ _ _).mono (fun r h c => ⟨(h.1 c).1.trans ?_, (h.1 c).2⟩) (Cert.KernelIdealRun.run_main (F := Ideal) m g)
    rw [Cert.Val.res_eq]
    exact Cert.Val.outArr_holds H c
  · exact (θ_run _ _ _).mono (fun r h => h 0) (Cert.ReferenceIdeal.Value.run (F := Ideal) m' g')

/-- Everything claimed. -/
theorem claim : Cert.Claim := ⟨Cert.Kernel.Gen.facts, Cert.KernelIdeal.Gen.facts, Cert.ReferenceIdeal.Gen.facts,
  frames.1, frames.2.1, frames.2.2, trivial, algebraic⟩

end Cert.Proof

end
